-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![8192]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![1024, 512]⟩ ⟨2, ![1024, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512 : Shape := ⟨1, ![512]⟩
abbrev S1x512 : Shape := ⟨2, ![1, 512]⟩
abbrev S16x8x128 : Shape := ⟨3, ![16, 8, 128]⟩
abbrev S16 : Shape := ⟨1, ![16]⟩
abbrev S_ : Shape := ⟨0, ![]⟩
abbrev S8x128x512 : Shape := ⟨3, ![8, 128, 512]⟩
abbrev S8x128 : Shape := ⟨2, ![8, 128]⟩
abbrev S1x8x128 : Shape := ⟨3, ![1, 8, 128]⟩
abbrev S1 : Shape := ⟨1, ![1]⟩
abbrev S1x1x512 : Shape := ⟨3, ![1, 1, 512]⟩
abbrev S8x128x1 : Shape := ⟨3, ![8, 128, 1]⟩

abbrev nBuf : Space → Nat
  | .hbm => 4
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S512, .f32⟩
  | .hbm, ⟨2, _⟩ => ⟨S1x512, .f32⟩
  | .hbm, ⟨3, _⟩ => ⟨S1024x512, .bf16⟩
  | .local _ .vmem, ⟨0, _⟩ => ⟨S1024x512, .f32⟩
  | .local _ .vmem, ⟨1, _⟩ => ⟨S1x512, .f32⟩
  | .local _ .vmem, ⟨2, _⟩ => ⟨S1024x512, .bf16⟩
  | .local _ .vmem, ⟨3, _⟩ => ⟨S16x8x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_65 : BitVec 32 := 1#32
  let v72 : BitVec 32 := Scalar.addi v2 c1_i32_65
  let c16_i32_66 : BitVec 32 := 16#32
  let v73 : BitVec 32 := Scalar.remsi v72 c16_i32_66
  let c1_i32_71 : BitVec 32 := 1#32
  let v74 : BitVec 32 := Scalar.muli v73 c1_i32_71
  let v75 : BitVec 32 := Scalar.addi c0_i32_72 v74
  v75.toNat
def k0_dev17 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_77 : BitVec 32 := 2#32
  let v84 : BitVec 32 := Scalar.addi v2 c2_i32_77
  let c16_i32_78 : BitVec 32 := 16#32
  let v85 : BitVec 32 := Scalar.remsi v84 c16_i32_78
  let c1_i32_83 : BitVec 32 := 1#32
  let v86 : BitVec 32 := Scalar.muli v85 c1_i32_83
  let v87 : BitVec 32 := Scalar.addi c0_i32_84 v86
  v87.toNat
def k0_dev18 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_89 : BitVec 32 := 3#32
  let v96 : BitVec 32 := Scalar.addi v2 c3_i32_89
  let c16_i32_90 : BitVec 32 := 16#32
  let v97 : BitVec 32 := Scalar.remsi v96 c16_i32_90
  let c1_i32_95 : BitVec 32 := 1#32
  let v98 : BitVec 32 := Scalar.muli v97 c1_i32_95
  let v99 : BitVec 32 := Scalar.addi c0_i32_96 v98
  v99.toNat
def k0_dev19 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_101 : BitVec 32 := 4#32
  let v108 : BitVec 32 := Scalar.addi v2 c4_i32_101
  let c16_i32_102 : BitVec 32 := 16#32
  let v109 : BitVec 32 := Scalar.remsi v108 c16_i32_102
  let c1_i32_107 : BitVec 32 := 1#32
  let v110 : BitVec 32 := Scalar.muli v109 c1_i32_107
  let v111 : BitVec 32 := Scalar.addi c0_i32_108 v110
  v111.toNat
def k0_dev20 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_113 : BitVec 32 := 5#32
  let v120 : BitVec 32 := Scalar.addi v2 c5_i32_113
  let c16_i32_114 : BitVec 32 := 16#32
  let v121 : BitVec 32 := Scalar.remsi v120 c16_i32_114
  let c1_i32_119 : BitVec 32 := 1#32
  let v122 : BitVec 32 := Scalar.muli v121 c1_i32_119
  let v123 : BitVec 32 := Scalar.addi c0_i32_120 v122
  v123.toNat
def k0_dev21 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_125 : BitVec 32 := 6#32
  let v132 : BitVec 32 := Scalar.addi v2 c6_i32_125
  let c16_i32_126 : BitVec 32 := 16#32
  let v133 : BitVec 32 := Scalar.remsi v132 c16_i32_126
  let c1_i32_131 : BitVec 32 := 1#32
  let v134 : BitVec 32 := Scalar.muli v133 c1_i32_131
  let v135 : BitVec 32 := Scalar.addi c0_i32_132 v134
  v135.toNat
def k0_dev22 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_137 : BitVec 32 := 7#32
  let v144 : BitVec 32 := Scalar.addi v2 c7_i32_137
  let c16_i32_138 : BitVec 32 := 16#32
  let v145 : BitVec 32 := Scalar.remsi v144 c16_i32_138
  let c1_i32_143 : BitVec 32 := 1#32
  let v146 : BitVec 32 := Scalar.muli v145 c1_i32_143
  let v147 : BitVec 32 := Scalar.addi c0_i32_144 v146
  v147.toNat
def k0_dev23 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_149 : BitVec 32 := 8#32
  let v156 : BitVec 32 := Scalar.addi v2 c8_i32_149
  let c16_i32_150 : BitVec 32 := 16#32
  let v157 : BitVec 32 := Scalar.remsi v156 c16_i32_150
  let c1_i32_155 : BitVec 32 := 1#32
  let v158 : BitVec 32 := Scalar.muli v157 c1_i32_155
  let v159 : BitVec 32 := Scalar.addi c0_i32_156 v158
  v159.toNat
def k0_dev24 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_161 : BitVec 32 := 9#32
  let v168 : BitVec 32 := Scalar.addi v2 c9_i32_161
  let c16_i32_162 : BitVec 32 := 16#32
  let v169 : BitVec 32 := Scalar.remsi v168 c16_i32_162
  let c1_i32_167 : BitVec 32 := 1#32
  let v170 : BitVec 32 := Scalar.muli v169 c1_i32_167
  let v171 : BitVec 32 := Scalar.addi c0_i32_168 v170
  v171.toNat
def k0_dev25 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_173 : BitVec 32 := 10#32
  let v180 : BitVec 32 := Scalar.addi v2 c10_i32_173
  let c16_i32_174 : BitVec 32 := 16#32
  let v181 : BitVec 32 := Scalar.remsi v180 c16_i32_174
  let c1_i32_179 : BitVec 32 := 1#32
  let v182 : BitVec 32 := Scalar.muli v181 c1_i32_179
  let v183 : BitVec 32 := Scalar.addi c0_i32_180 v182
  v183.toNat
def k0_dev26 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_185 : BitVec 32 := 11#32
  let v192 : BitVec 32 := Scalar.addi v2 c11_i32_185
  let c16_i32_186 : BitVec 32 := 16#32
  let v193 : BitVec 32 := Scalar.remsi v192 c16_i32_186
  let c1_i32_191 : BitVec 32 := 1#32
  let v194 : BitVec 32 := Scalar.muli v193 c1_i32_191
  let v195 : BitVec 32 := Scalar.addi c0_i32_192 v194
  v195.toNat
def k0_dev27 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_197 : BitVec 32 := 12#32
  let v204 : BitVec 32 := Scalar.addi v2 c12_i32_197
  let c16_i32_198 : BitVec 32 := 16#32
  let v205 : BitVec 32 := Scalar.remsi v204 c16_i32_198
  let c1_i32_203 : BitVec 32 := 1#32
  let v206 : BitVec 32 := Scalar.muli v205 c1_i32_203
  let v207 : BitVec 32 := Scalar.addi c0_i32_204 v206
  v207.toNat
def k0_dev28 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_209 : BitVec 32 := 13#32
  let v216 : BitVec 32 := Scalar.addi v2 c13_i32_209
  let c16_i32_210 : BitVec 32 := 16#32
  let v217 : BitVec 32 := Scalar.remsi v216 c16_i32_210
  let c1_i32_215 : BitVec 32 := 1#32
  let v218 : BitVec 32 := Scalar.muli v217 c1_i32_215
  let v219 : BitVec 32 := Scalar.addi c0_i32_216 v218
  v219.toNat
def k0_dev29 (d0 : Dev nD) : Nat :=
  let c0_i32_228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_221 : BitVec 32 := 14#32
  let v228 : BitVec 32 := Scalar.addi v2 c14_i32_221
  let c16_i32_222 : BitVec 32 := 16#32
  let v229 : BitVec 32 := Scalar.remsi v228 c16_i32_222
  let c1_i32_227 : BitVec 32 := 1#32
  let v230 : BitVec 32 := Scalar.muli v229 c1_i32_227
  let v231 : BitVec 32 := Scalar.addi c0_i32_228 v230
  v231.toNat
def k0_dev30 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_233 : BitVec 32 := 15#32
  let v240 : BitVec 32 := Scalar.addi v2 c15_i32_233
  let c16_i32_234 : BitVec 32 := 16#32
  let v241 : BitVec 32 := Scalar.remsi v240 c16_i32_234
  let c1_i32_239 : BitVec 32 := 1#32
  let v242 : BitVec 32 := Scalar.muli v241 c1_i32_239
  let v243 : BitVec 32 := Scalar.addi c0_i32_240 v242
  v243.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x8192 : Shape := ⟨2, ![1024, 8192]⟩
abbrev S8192 : Shape := ⟨1, ![8192]⟩
abbrev S_ : Shape := ⟨0, ![]⟩
abbrev S1024 : Shape := ⟨1, ![1024]⟩
abbrev S1024x1 : Shape := ⟨2, ![1024, 1]⟩
abbrev S1x8192 : Shape := ⟨2, ![1, 8192]⟩

abbrev nBuf : Space → Nat
  | .hbm => 19
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S8192, .f32⟩
  | .hbm, ⟨2, _⟩ => ⟨S1024x8192, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1x8192, .f32⟩
  | .hbm, ⟨14, _⟩ => ⟨S1024x8192, .f32⟩
  | .hbm, ⟨15, _⟩ => ⟨S1024x8192, .f32⟩
  | .hbm, ⟨16, _⟩ => ⟨S1024x8192, .f32⟩
  | .hbm, ⟨17, _⟩ => ⟨S1024x8192, .f32⟩
  | .hbm, ⟨18, _⟩ => ⟨S1024x8192, .bf16⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Shape.lean ====
/-
# 01_k — the kernel body, written with loops

Every device runs one body: it signals the fifteen other devices' barrier semaphores, reduces its own block to a row
of partial sums, waits for the fifteen signals, sends the row to the fifteen other devices, adds the fifteen rows that
arrive to its own, waits for its fifteen sends, and scales its block. The printed body lists each of these fifteen
times over; here each is one program over a list of offsets (`signals`, `sends`, `gathers`, `drains`), and `body_eq`
says that the printed body is their sequence.

Offset `o : Fin 15` stands for a distance of `o + 1` devices along the ring of sixteen.
-/
module

public import proofs.«01_k».proof.Proof.Gen.KernelIdeal
public import proofs.«01_k».proof.Proof.Gen.KernelIdeal.Skeleton

@[expose] public section

noncomputable section

namespace Cert.RmsProof

open Cert.KernelIdeal Cert.KernelIdeal.Gen

open Idealize.ShloMosaic
open Idealize.ShloMosaic.TcCoe
open Idealize.SL Idealize.SL.Sem

variable {F : FTy → Type} [FloatOps F]

/-- A program of a TensorCore of this mesh. -/
abbrev TcProg (F : FTy → Type) [FloatOps F] : Type 1 := Prog (TpuEff nD τ sig (Elt F) Λ₀ .tc) PUnit

/-! ## The memrefs and the semaphores -/

abbrev xM : Memref sig .tc .vmem S1024x512 .f32 := Memref.whole cc0_stg0_0
abbrev gM : Memref sig .tc .vmem S1x512 .f32 := Memref.whole cc0_stg1_0
abbrev oM : Memref sig .tc .vmem S1024x512 .bf16 := Memref.whole cc0_stg2_0
abbrev rM : Memref sig .tc .vmem S16x8x128 .f32 := Memref.whole cc0_scratch0

/-- The barrier semaphore. -/
abbrev barS : Sem sig := (SemArray.scalar (sig.barrier 0 rfl) : Sems sig S_).sem

/-- Row `k` of the exchange buffer lies inside it. -/
theorem slot_inb (k : Fin 16) : ∀ a, (![k.val, 0, 0] : Fin 3 → ℕ) a + S1x8x128.size a ≤ S16x8x128.size a := by
  revert k; decide
/-- Entry `k` of a semaphore array lies inside it. -/
theorem sem_inb (k : Fin 16) : ∀ a, (![k.val] : Fin 1 → ℕ) a + S1.size a ≤ S16.size a := by revert k; decide

/-- Row `k` of the exchange buffer, as the rectangle a load or a store names; -/
abbrev slotR (k : Fin 16) : Rect S16x8x128 := Rect.unit (s := S16x8x128) ![k.val, 0, 0] S1x8x128.size (slot_inb k)
/-- as the memref a remote copy names. -/
abbrev slotM (k : Fin 16) : Memref sig .tc .vmem S8x128 .f32 := (rM.slice (slotR k) (fun _ => rfl)).squeeze S8x128 squeezes_S1x8x128_S8x128
/-- Entry `k` of a semaphore array. -/
abbrev semM (a : DmaSems sig S16) (k : Fin 16) : DmaSem sig :=
  ((a.slice (Rect.unit (s := S16) ![k.val] S1.size (sem_inb k))).squeeze S_ squeezes_S1_S_).sem

/-- The semaphore the copy at offset `o` raises at its source; -/
abbrev sendS (o : Fin 15) : DmaSem sig := semM cc0_scratch1 o.succ
/-- at its target. -/
abbrev recvS (o : Fin 15) : DmaSem sig := semM cc0_scratch2 o.succ

/-! ## The loops -/

/-- One signal to each barrier semaphore of the devices `n o`. -/
def signals (n : Fin 15 → Dev nD) : List (Fin 15) → TcProg F → TcProg F
  | [], k => k
  | o :: l, k => .op (.semSignal (n o : Thread nD τ) barS (1#32).toInt) fun _ => signals n l k

/-- Row 0 sent to row `o + 1` of each of the devices `n o`. -/
def sends (n : Fin 15 → Dev nD) : List (Fin 15) → TcProg F → TcProg F
  | [], k => k
  | o :: l, k => .op (.enqueueDma (slotM 0) (.remote (Dev.tc (n o)) (slotM o.succ) (.dma (sendS o))) (.dma (recvS o))
      ((View.wordExact_bits rfl).reshape _ _) ((View.wordExact_bits rfl).reshape _ _) ⟨⟨rfl, Or.inl rfl⟩, trivial⟩) fun _ => sends n l k

/-- One row added to the running sum. -/
def addRow (acc : FVec F S8x128 .f32) (v : Vec F S1x8x128 .f32) : FVec F S8x128 .f32 :=
  addf acc (shapeCast S8x128 v shapeCasts_S1x8x128_S8x128)

/-- Row `o + 1`. -/
abbrev loadSlot (o : Fin 15) : TpuEff nD τ sig (Elt F) Λ₀ .tc (Vec F S1x8x128 .f32) :=
  .load rM (slotR o.succ).toLoadRect (View.loadsAt_vmem h_S1x8x128)
/-- The arrival of row `o + 1`. -/
abbrev awaitSlot (o : Fin 15) : TpuEff nD τ sig (Elt F) Λ₀ .tc PUnit :=
  .waitDma2 (recvS o) (slotM 0) (slotM o.succ) ((View.wordExact_bits rfl).reshape _ _) ((View.wordExact_bits rfl).reshape _ _)

/-- Each row `o + 1` awaited, loaded and added to the running sum. -/
def gathers : List (Fin 15) → FVec F S8x128 .f32 → (FVec F S8x128 .f32 → TcProg F) → TcProg F
  | [], acc, k => k acc
  | o :: l, acc, k => .op (awaitSlot o) fun _ => .op (loadSlot o) fun v => gathers l (addRow acc v) k

/-- Each of this device's own copies awaited at its source. -/
def drains : List (Fin 15) → TcProg F → TcProg F
  | [], k => k
  | o :: l, k => .op (.waitDma2 (sendS o) (slotM o.succ) (slotM 0) ((View.wordExact_bits rfl).reshape _ _) ((View.wordExact_bits rfl).reshape _ _)) fun _ => drains l k

/-- The offsets in order. -/
abbrev offs : List (Fin 15) := [0, 1, 2, 3, 4, 5, 6, 7, 8, 9, 10, 11, 12, 13, 14]

/-- The devices the fifteen signals name. -/
def sigDev (c : Dev nD) : Fin 15 → Dev nD := fun
  | 0 => ⟨k0_dev1 c, k0_dev1_lt c⟩ | 1 => ⟨k0_dev2 c, k0_dev2_lt c⟩ | 2 => ⟨k0_dev3 c, k0_dev3_lt c⟩
  | 3 => ⟨k0_dev4 c, k0_dev4_lt c⟩ | 4 => ⟨k0_dev5 c, k0_dev5_lt c⟩ | 5 => ⟨k0_dev6 c, k0_dev6_lt c⟩
  | 6 => ⟨k0_dev7 c, k0_dev7_lt c⟩ | 7 => ⟨k0_dev8 c, k0_dev8_lt c⟩ | 8 => ⟨k0_dev9 c, k0_dev9_lt c⟩
  | 9 => ⟨k0_dev10 c, k0_dev10_lt c⟩ | 10 => ⟨k0_dev11 c, k0_dev11_lt c⟩ | 11 => ⟨k0_dev12 c, k0_dev12_lt c⟩
  | 12 => ⟨k0_dev13 c, k0_dev13_lt c⟩ | 13 => ⟨k0_dev14 c, k0_dev14_lt c⟩ | 14 => ⟨k0_dev15 c, k0_dev15_lt c⟩
/-- The devices the fifteen copies name. -/
def dstDev (c : Dev nD) : Fin 15 → Dev nD := fun
  | 0 => ⟨k0_dev16 c, k0_dev16_lt c⟩ | 1 => ⟨k0_dev17 c, k0_dev17_lt c⟩ | 2 => ⟨k0_dev18 c, k0_dev18_lt c⟩
  | 3 => ⟨k0_dev19 c, k0_dev19_lt c⟩ | 4 => ⟨k0_dev20 c, k0_dev20_lt c⟩ | 5 => ⟨k0_dev21 c, k0_dev21_lt c⟩
  | 6 => ⟨k0_dev22 c, k0_dev22_lt c⟩ | 7 => ⟨k0_dev23 c, k0_dev23_lt c⟩ | 8 => ⟨k0_dev24 c, k0_dev24_lt c⟩
  | 9 => ⟨k0_dev25 c, k0_dev25_lt c⟩ | 10 => ⟨k0_dev26 c, k0_dev26_lt c⟩ | 11 => ⟨k0_dev27 c, k0_dev27_lt c⟩
  | 12 => ⟨k0_dev28 c, k0_dev28_lt c⟩ | 13 => ⟨k0_dev29 c, k0_dev29_lt c⟩ | 14 => ⟨k0_dev30 c, k0_dev30_lt c⟩

/-- What the body stores: the block times gamma, times the reciprocal root of the mean the row sums give. -/
def scaled (x : Vec F S1024x512 .f32) (g : Vec F S1x512 .f32) (acc : FVec F S8x128 .f32) : FVec F S1024x512 .bf16 :=
  k0_pay1 (k0_pay5 (k0_pay2 x) g) (k0_pay13 acc)

/-- The last two operations: the load whose value is not used and the store of the result. -/
def finish (r : FVec F S1024x512 .bf16) : TcProg F :=
  .op (.load oM (Rect.unit (s := S1024x512) ![0, 0] S1024x512.size inb_S1024x512_S1024x512_0_0).toLoadRect (View.loadsAt_vmem h_S1024x512)) fun _ =>
  .op (.store oM (Rect.unit (s := S1024x512) ![0, 0] S1024x512.size inb_S1024x512_S1024x512_0_0) r Finset.univ
    (View.stores_vmem h_S1024x512 ((Memref.isWhole_whole cc0_stg2_0).storeExact_slice rfl _ packedbf16_S1024x512_S1024x512_0_0) (fun _ => rfl)) (.inl rfl)) fun _ =>
  .ret ⟨⟩

/-- The body after the barrier: the copies, the sum, the store. -/
def exchange (c : Dev nD) (x : Vec F S1024x512 .f32) : TcProg F :=
  sends (dstDev c) offs <|
  .op (.load gM (Rect.unit (s := S1x512) ![0, 0] S1x512.size inb_S1x512_S1x512_0_0).toLoadRect (View.loadsAt_vmem h_S1x512)) fun g =>
  gathers offs (k0_pay3 x) fun acc =>
  drains offs <|
  finish (scaled x g acc)

/-- The body, its device known. -/
def body (c : Dev nD) : TcProg F :=
  signals (sigDev c) offs <|
  .op (.load xM (Rect.unit (s := S1024x512) ![0, 0] S1024x512.size inb_S1024x512_S1024x512_0_0).toLoadRect (View.loadsAt_vmem h_S1024x512)) fun x =>
  .op (.load rM (slotR 0).toLoadRect (View.loadsAt_vmem h_S1x8x128)) fun _ =>
  .op (.store rM (slotR 0) (k0_pay4 x) Finset.univ (View.stores_vmem_bits_univ h_S1x8x128 rfl) (.inl rfl)) fun _ =>
  .op (.semWait barS (15#32).toInt) fun _ =>
  exchange c x

/-- The printed body reads its device and runs `body` there. -/
theorem body_eq :
    cc0_body (F := F) xM (Memref.isWhole_whole _) gM (Memref.isWhole_whole _) oM (Memref.isWhole_whole _) rM (Memref.isWhole_whole _) cc0_scratch1 cc0_scratch2
      = .op .deviceId fun c => body c := by
  rfl

end Cert.RmsProof
-- ==== Proof.Proto.lean ====
/-
# 01_k — the protocol of the exchange

Sixteen devices, each with a buffer of sixteen rows. Row 0 of a device is its own; row `o + 1` is written by the device
`o + 1` places before it and by no other. What crosses the devices, as rounds of one round (round 0):

* the barrier cell of a device has fifteen duties of one unit, one for each other device. The device that pays duty
  `o` hands over the row of its own buffer that the cell's owner writes, and that the receive cell of that row is open;
* the send cell of offset `o` has one duty, the copy's credit, paid by the copy at its source: it hands the share of
  row 0 the copy read from back;
* the receive cell of offset `o` has one duty, the copy's credit, paid by the copy at its target: it hands row `o + 1`
  over, holding the partial sums of the device `o + 1` places before.
-/
module

public import proofs.«01_k».proof.Proof.Shape
public import proofs.«01_k».proof.Proof.Gen.KernelIdeal.Launch
public import proofs.«01_k».proof.Proof.Gen.KernelIdeal.Frame
public import Idealize.ShloMosaic.Lib.Rounds
public import Idealize.ShloMosaic.Lib.ShareLeaves
public import Idealize.ShloMosaic.Lib.Tactic

@[expose] public section

noncomputable section

namespace Cert.RmsProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the exchange's (duties named by offsets) -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The ring -/

set_option backward.proofsInPublic true in
/-- The device `o + 1` places after `c`; -/
def peer (c : Dev nD) (o : Fin 15) : Dev nD := ⟨(c.val + o.val + 1) % 16, Nat.mod_lt _ (by decide)⟩
/-- before it. -/
def back (c : Dev nD) (o : Fin 15) : Dev nD := peer c o.rev

theorem peer_rev (c : Dev nD) (o : Fin 15) : peer (peer c o) o.rev = c := by
  apply Fin.ext
  have hc : c.val < 16 := c.isLt
  have ho := o.isLt
  simp only [peer, Fin.val_rev]
  omega
theorem back_peer (c : Dev nD) (o : Fin 15) : back (peer c o) o = c := peer_rev c o
theorem peer_back (c : Dev nD) (o : Fin 15) : peer (back c o) o = c := by
  have h := peer_rev c o.rev
  rwa [Fin.rev_rev] at h

/-- Going `o + 1` places on is a permutation of the devices. -/
def step (o : Fin 15) : Dev nD ≃ Dev nD := ⟨(peer · o), (back · o), fun c => back_peer c o, fun c => peer_back c o⟩

theorem sigDev_eq (c : Dev nD) : sigDev c = peer c := by
  funext o; apply Fin.ext
  fin_cases o
  exacts [k0_dev1_eq c, k0_dev2_eq c, k0_dev3_eq c, k0_dev4_eq c, k0_dev5_eq c, k0_dev6_eq c, k0_dev7_eq c, k0_dev8_eq c,
    k0_dev9_eq c, k0_dev10_eq c, k0_dev11_eq c, k0_dev12_eq c, k0_dev13_eq c, k0_dev14_eq c, k0_dev15_eq c]
theorem dstDev_eq (c : Dev nD) : dstDev c = peer c := by
  funext o; apply Fin.ext
  fin_cases o
  exacts [k0_dev16_eq c, k0_dev17_eq c, k0_dev18_eq c, k0_dev19_eq c, k0_dev20_eq c, k0_dev21_eq c, k0_dev22_eq c, k0_dev23_eq c,
    k0_dev24_eq c, k0_dev25_eq c, k0_dev26_eq c, k0_dev27_eq c, k0_dev28_eq c, k0_dev29_eq c, k0_dev30_eq c]

/-! ## The cells -/

abbrev barCell (c : Dev nD) : GSem nD τ sig := ((c : Thread nD τ), .reg barS)
abbrev sendCell (c : Dev nD) (o : Fin 15) : GSem nD τ sig := ((c : Thread nD τ), .dma (sendS o))
abbrev recvCell (c : Dev nD) (o : Fin 15) : GSem nD τ sig := ((c : Thread nD τ), .dma (recvS o))

theorem sendS_val (o : Fin 15) : (sendS o).val = 4 + o.val := by revert o; decide
theorem recvS_val (o : Fin 15) : (recvS o).val = 20 + o.val := by revert o; decide

/-- The credit one row's copy pays. -/
abbrev N : ℕ := (slotM 0).view.dmaCredit
theorem N_pos : 0 < N := View.dmaCredit_pos _ (by decide)

/-! ## Contents -/

/-- Device `c`'s block of the input, as its staging buffer holds it; -/
def xblk (c : Dev nD) : Vec F S1024x512 .f32 := iblk m c 0 t0_0
/-- its block of gamma. -/
def gblk (c : Dev nD) : Vec F S1x512 .f32 := iblk m c 1 t0_0
/-- The partial sums device `c` sends. -/
def part (c : Dev nD) : Vec F S1x8x128 .f32 := k0_pay4 (xblk m c)

set_option backward.proofsInPublic true in
/-- The position inside its row of an element of the exchange buffer. -/
def inRow (i : S16x8x128.Idx) : S1x8x128.Idx := fun | 0 => ⟨0, by decide⟩ | 1 => i 1 | 2 => i 2
/-- The exchange buffer with every row holding `v`. -/
def fill (v : Vec F S1x8x128 .f32) : (cc0_scratch0 : Ref sig .tc).ty.Contents (Elt F) := fun i => v (inRow i)

/-- Row `k` of device `c`'s exchange buffer, held at share `q` and contents `f`. -/
def slotPts (c : Dev nD) (k : Fin 16) (q : PosShare TreeShare) (f : (cc0_scratch0 : Ref sig .tc).ty.Contents (Elt F)) : sProp 𝕄 :=
  (slotM k).view.loc (c : Thread nD τ) ↦[(slotM k).view.set]{q} f

instance slotPts_storable (c : Dev nD) (k : Fin 16) (q) (f) : BI.Storable (upEmb : UEmb _ 𝕄) (slotPts (F := F) c k q f) := by
  unfold slotPts; infer_instance

/-- The share of row 0 the copy at offset `o` reads from. -/
def share (k : Fin 16) : PosShare TreeShare := ShareLeaves.leaf 4 fullShare k

/-! ## The schedule -/

/-- What duty `o` of device `q`'s barrier cell hands `q`: the row it writes on the device that pays it, and that the row's
    receive cell is open. -/
def barPay (q : Dev nD) (o : Fin 15) : sProp 𝕄 :=
  iprop((∃ f, slotPts (back q o) o.rev.succ fullShare f) ∗ reached ER (recvCell (back q o) o.rev) 0)
def sendPay (c : Dev nD) (o : Fin 15) : sProp 𝕄 := slotPts c 0 (share o.succ) (fill (part m c))
def recvPay (c : Dev nD) (o : Fin 15) : sProp 𝕄 := slotPts c o.succ fullShare (fill (part m (back c o)))

/-- The offset entry `s - b` of a semaphore array stands for. -/
def offOf (s b : ℕ) : Fin 15 := ⟨(s - b) % 15, Nat.mod_lt _ (by decide)⟩
theorem offOf_send (o : Fin 15) : offOf (sendS o).val 4 = o := by
  apply Fin.ext; have := o.isLt; simp only [offOf, sendS_val]; omega
theorem offOf_recv (o : Fin 15) : offOf (recvS o).val 20 = o := by
  apply Fin.ext; have := o.isLt; simp only [offOf, recvS_val]; omega

/-- The duties of a semaphore. -/
def semDuties : SemLoc sig → Finset (Fin 15)
  | .reg _ => Finset.univ
  | .dma s => if 4 ≤ s.val ∧ s.val ≠ 19 then {0} else ∅
/-- The units each of its duties pays. -/
def semAmount : SemLoc sig → ℕ
  | .reg _ => 1
  | .dma _ => N
/-- What they hand over. -/
def semPay (c : Dev nD) : SemLoc sig → Fin 15 → sProp 𝕄
  | .reg _, d => barPay c d
  | .dma s, _ => if s.val < 19 then sendPay m c (offOf s.val 4) else recvPay m c (offOf s.val 20)

/-- The exchange's schedule: one round. -/
def rd : Rounds.Schedule (GSem nD τ sig) (Fin 15) 𝕄 where
  duties g r := if r = 0 ∧ g.1.2 = .tc then semDuties g.2 else ∅
  unitless _ := False
  amount g _ _ := semAmount g.2
  payload g _ d := semPay m g.1.1 g.2 d
  amount_pos g _ _ _ := by
    rcases g with ⟨t, s | s⟩
    · exact Nat.one_pos
    · exact N_pos

instance rd_payload_storable (g : GSem nD τ sig) (r : ℕ) (d : Fin 15) : BI.Storable (upEmb : UEmb _ 𝕄) ((rd (F := F) m).payload g r d) := by
  rcases g with ⟨t, s | s⟩
  · show BI.Storable upEmb (barPay t.1 d)
    unfold barPay; infer_instance
  · show BI.Storable upEmb (if s.val < 19 then sendPay m t.1 (offOf s.val 4) else recvPay m t.1 (offOf s.val 20))
    unfold sendPay recvPay
    split <;> infer_instance

section Sched
variable (c : Dev nD) (o d : Fin 15)

theorem duties_bar : (rd (F := F) m).duties (barCell c) 0 = Finset.univ := by dsimp only [rd]; exact if_pos ⟨rfl, rfl⟩
theorem duties_send : (rd (F := F) m).duties (sendCell c o) 0 = {0} := by
  dsimp only [rd]
  rw [if_pos ⟨rfl, rfl⟩]
  exact if_pos (by have := o.isLt; have := sendS_val o; omega)
theorem duties_recv : (rd (F := F) m).duties (recvCell c o) 0 = {0} := by
  dsimp only [rd]
  rw [if_pos ⟨rfl, rfl⟩]
  exact if_pos (by have := o.isLt; have := recvS_val o; omega)
theorem duties_later (g : GSem nD τ sig) : ∀ r, 1 ≤ r → (rd (F := F) m).duties g r = ∅ :=
  fun r hr => by dsimp only [rd]; exact if_neg fun h => by omega

theorem amount_bar : (rd (F := F) m).amount (barCell c) 0 d = 1 := rfl
theorem amount_send : (rd (F := F) m).amount (sendCell c o) 0 d = N := rfl
theorem amount_recv : (rd (F := F) m).amount (recvCell c o) 0 d = N := rfl

theorem expect_bar : (rd (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_send : (rd (F := F) m).expect (sendCell c o) 0 = N := by
  unfold Schedule.expect Schedule.amountOf; rw [duties_send, Finset.sum_singleton, amount_send]
theorem expect_recv : (rd (F := F) m).expect (recvCell c o) 0 = N := by
  unfold Schedule.expect Schedule.amountOf; rw [duties_recv, Finset.sum_singleton, amount_recv]

theorem payload_bar : (rd (F := F) m).payload (barCell c) 0 d = barPay c d := rfl
theorem payload_send : (rd (F := F) m).payload (sendCell c o) 0 d = sendPay m c o := by
  show (if (sendS o).val < 19 then sendPay m c (offOf (sendS o).val 4) else recvPay m c (offOf (sendS o).val 20)) = _
  rw [if_pos (by have := o.isLt; have := sendS_val o; omega), offOf_send]
theorem payload_recv : (rd (F := F) m).payload (recvCell c o) 0 d = recvPay m c o := by
  show (if (recvS o).val < 19 then sendPay m c (offOf (recvS o).val 4) else recvPay m c (offOf (recvS o).val 20)) = _
  rw [if_neg (by have := o.isLt; have := recvS_val o; omega), offOf_recv]

/-- What the rest of each cell's round hands over, no duty taken yet. -/
theorem rest_bar : bigSep ((rd (F := F) m).duties (barCell c) 0 \ ∅) (fun d => (rd (F := F) m).payload (barCell c) 0 d)
    = bigSep Finset.univ (fun d => barPay (F := F) c d) := by
  rw [Finset.sdiff_empty, duties_bar]; rfl
theorem rest_send : bigSep ((rd (F := F) m).duties (sendCell c o) 0 \ ∅) (fun d => (rd (F := F) m).payload (sendCell c o) 0 d) = sendPay m c o := by
  rw [Finset.sdiff_empty, duties_send, bigSep_singleton, payload_send]
theorem rest_recv : bigSep ((rd (F := F) m).duties (recvCell c o) 0 \ ∅) (fun d => (rd (F := F) m).payload (recvCell c o) 0 d) = recvPay m c o := by
  rw [Finset.sdiff_empty, duties_recv, bigSep_singleton, payload_recv]

end Sched

/-- A cell whose one round is over, or that has none, is closed: its counter comes back at zero. -/
theorem close (κ : ℕ) (g : GSem nD τ sig) :
    iprop(cellInv ER (rd (F := F) m) κ g ∗ atPos ER g (0 + 1) ∅ 0) ⊢ (|={Set.univ}=> semVal g 0 : sProp 𝕄) :=
  Rounds.cell_close ER (rd m) (Set.mem_univ κ) id (duties_later m g)

/-! ## What each device owes at launch; the levels -/

/-- What the copies at the offsets `l` owe: each its target's receive cell the copy's credit; -/
def oweRecv (c : Dev nD) (l : List (Fin 15)) : CellTallies nD τ sig Unit := (l.map fun o => tallyAt (recvCell (peer c o) o) () N).sum
/-- and the signals at the offsets `l`: each its target's barrier cell one unit. -/
def oweBar (c : Dev nD) (l : List (Fin 15)) : CellTallies nD τ sig Unit := (l.map fun o => tallyAt (barCell (peer c o)) () 1).sum
/-- All of it. -/
def O₀ (c : Dev nD) : CellTallies nD τ sig Unit := oweRecv c offs + oweBar c offs

def L (g : GSem nD τ sig) : Finset Unit := if g.1.2 = .tc then {()} else ∅
/-- The level of a semaphore: barrier semaphores at 1, receive semaphores at 2, the rest at 0. -/
def semLv : SemLoc sig → ℕ
  | .reg _ => 1
  | .dma s => if 20 ≤ s.val then 2 else 0
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (o : Fin 15) : lv (recvCell c o) () = 2 := if_pos (by have := recvS_val o; omega)

/-- A positive entry of a sum of tallies is a positive entry of one of them. -/
theorem sum_pos_entry {f : Fin 15 → CellTallies nD τ sig Unit} {g : GSem nD τ sig} {u : Unit} :
    ∀ {l : List (Fin 15)}, 0 < (l.map f).sum g u → ∃ o, 0 < f o g u
  | [], h => absurd h (Nat.lt_irrefl 0)
  | o :: l, h => by
    rw [List.map_cons, List.sum_cons] at h
    by_cases h0 : 0 < f o g u
    · exact ⟨o, h0⟩
    · refine sum_pos_entry (l := l) ?_
      have e : (f o + (l.map f).sum) g u = f o g u + (l.map f).sum g u := rfl
      rw [e] at h; omega

theorem tallyAt_pos {g g' : GSem nD τ sig} {n : ℕ} {u : Unit} (h : 0 < (tallyAt g' () n : CellTallies nD τ sig Unit) g u) : g = g' := by
  rw [tallyAt_apply] at h
  by_cases hg : g = g' ∧ u = ()
  · exact hg.1
  · rw [if_neg hg] at h; exact absurd h (Nat.lt_irrefl 0)

theorem oweRecv_pos {c : Dev nD} {l : List (Fin 15)} {g : GSem nD τ sig} {u : Unit} (h : 0 < oweRecv c l g u) :
    ∃ o, g = recvCell (peer c o) o := by
  obtain ⟨o, ho⟩ := sum_pos_entry h; exact ⟨o, tallyAt_pos ho⟩
theorem oweBar_pos {c : Dev nD} {l : List (Fin 15)} {g : GSem nD τ sig} {u : Unit} (h : 0 < oweBar c l g u) :
    ∃ o, g = barCell (peer c o) := by
  obtain ⟨o, ho⟩ := sum_pos_entry h; exact ⟨o, tallyAt_pos ho⟩
theorem O₀_pos {c : Dev nD} {g : GSem nD τ sig} {u : Unit} (h : 0 < O₀ c g u) :
    (∃ o, g = recvCell (peer c o) o) ∨ ∃ o, g = barCell (peer c o) := by
  have e : O₀ c g u = oweRecv c offs g u + oweBar c offs g u := rfl
  by_cases h0 : 0 < oweRecv c offs g u
  · exact .inl (oweRecv_pos h0)
  · exact .inr (oweBar_pos (l := offs) (u := u) (by omega))

/-- The barrier wait is allowed while the copies' credits are owed: they lie above it. -/
theorem mayWait_bar (c : Dev nD) : (levAts L lv : sProp 𝕄) ⊢ MayWait (c : Thread nD τ) (.reg barS) () (oweRecv c offs) :=
  MayOwe.of_cut (L := L) (lev := lv) 1 (fun p hp => by rw [Finset.mem_singleton.mp hp, L_tc]; exact Finset.mem_singleton_self _)
    (fun g u hg => by obtain ⟨o, rfl⟩ := oweRecv_pos hg; rw [L_tc]; exact Finset.mem_singleton_self _)
    (fun p hp => by rw [Finset.mem_singleton.mp hp]; exact le_of_eq (lv_bar c))
    (fun g u hg => by obtain ⟨o, rfl⟩ := oweRecv_pos hg; rw [lv_recv]; decide)

end Cert.RmsProof
-- ==== Proof.Steps.lean ====
/-
# 01_k — the loops of the body, each by induction on its list of offsets

First where the rows of the exchange buffer lie and what a load, a store or a copy of one reads and leaves
(`read_slot`, `store_slot`, `land_slot`); then one statement per loop: what it takes for each offset of its list and what
it gives back for each (`wp_signals`, `wp_sends`, `wp_gathers`, `wp_drains`).
-/
module

public import proofs.«01_k».proof.Proof.Proto
public import Idealize.ShloMosaic.Lib.Pipeline.BigSepL
public import Idealize.ShloMosaic.Lib.Pipeline.ValueKit.Geometry

@[expose] public section

noncomputable section

namespace Cert.RmsProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The rows of the exchange buffer -/

/-- A row's elements, as its memref and as its rectangle lists them. -/
theorem slot_set (k : Fin 16) : (slotM k).view.set = (slotR k).set := by
  refine (Memref.set_view_squeeze _ _).trans ?_
  exact View.set_slice_whole cc0_scratch0 (slotR k)

/-- The element of row `k` at position `z` of the row. -/
theorem slot_emb_val (k : Fin 16) (z : (slotR k).shape.Idx) (a : Fin 3) :
    ((slotR k).emb z a : ℕ) = (![k.val, 0, 0] : Fin 3 → ℕ) a + z a := ValueKit.rect_emb_unit_val _ _ _ z a

/-- Its position inside the row is `z`. -/
theorem inRow_emb (k : Fin 16) (z : (slotR k).shape.Idx) : inRow ((slotR k).emb z) = z := by
  funext a; apply Fin.ext
  have h0 : (z 0 : ℕ) < 1 := (z 0).isLt
  have h1 := slot_emb_val k z 1
  have h2 := slot_emb_val k z 2
  fin_cases a
  · show (0 : ℕ) = (z 0 : ℕ); omega
  · refine h1.trans ?_; exact Nat.zero_add _
  · refine h2.trans ?_; exact Nat.zero_add _

/-- An element lies in row `k` exactly when its first coordinate is `k`. -/
theorem mem_slot (k : Fin 16) (i : S16x8x128.Idx) : i ∈ (slotR k).set ↔ (i 0).val = k.val := by
  constructor
  · intro h
    rw [← Rect.map_emb_univ] at h
    obtain ⟨z, -, rfl⟩ := Finset.mem_map.mp h
    have h0 : (z 0 : ℕ) < 1 := (z 0).isLt
    have e := slot_emb_val k z 0
    refine e.trans ?_
    show k.val + (z 0 : ℕ) = k.val
    omega
  · intro h
    rw [← Rect.map_emb_univ]
    refine Finset.mem_map.mpr ⟨inRow i, Finset.mem_univ _, ?_⟩
    funext a; apply Fin.ext
    have e := slot_emb_val k (inRow i) a
    refine e.trans ?_
    fin_cases a
    · show k.val + 0 = (i 0).val; omega
    · exact Nat.zero_add _
    · exact Nat.zero_add _

/-- Reading row `k` of a buffer whose rows all hold `v` gives `v`. -/
theorem read_slot (k : Fin 16) (v : Vec F S1x8x128 .f32) :
    rM.view.readAt (Elt F) (slotR k).toLoadRect (fill v) = v := by
  rw [View.readAt_rect]
  funext z
  exact congrArg v (inRow_emb k z)

theorem load_sub (k : Fin 16) : rM.view.setOn (slotR k).toLoadRect.set ⊆ (slotM k).view.set := by
  rw [slot_set]
  intro i hi
  obtain ⟨j, hj, rfl⟩ := Finset.mem_map.mp hi
  exact hj

theorem store_sub (k : Fin 16) : (rM.access (slotR k)).setOn Finset.univ ⊆ (slotM k).view.set := by
  rw [slot_set, View.setOn_univ]
  exact (View.set_slice_whole cc0_scratch0 (slotR k)).subset

/-- Storing `v` to row `k` leaves the row as in a buffer whose rows all hold `v`. -/
theorem store_slot (k : Fin 16) (f : (cc0_scratch0 : Ref sig .tc).ty.Contents (Elt F)) (v : Vec F S1x8x128 .f32) :
    ∀ i ∈ (slotM k).view.set, (rM.access (slotR k)).write (Elt F) f v Finset.univ i = fill v i := by
  rw [slot_set, ← Rect.map_emb_univ]
  intro i hi
  obtain ⟨z, -, rfl⟩ := Finset.mem_map.mp hi
  refine (View.write_emb_of_mem (v := rM.access (slotR k)) f v (Finset.mem_univ z)).trans ?_
  exact (congrArg v (inRow_emb k z)).symm

/-- Copying row 0 to row `k`, row 0 holding `v`, leaves row `k` holding `v`. -/
theorem land_slot (k : Fin 16) (f : (cc0_scratch0 : Ref sig .tc).ty.Contents (Elt F)) (v : Vec F S1x8x128 .f32) :
    ∀ i ∈ (slotM k).view.set, (slotM k).view.write (Elt F) f ((slotM 0).view.read (Elt F) (fill v)) Finset.univ i = fill v i := by
  intro i hi
  obtain ⟨y, -, rfl⟩ := Finset.mem_map.mp hi
  refine (View.write_emb_of_mem (v := (slotM k).view) f _ (Finset.mem_univ y)).trans ?_
  show v (inRow ((slotR 0).emb _)) = v (inRow ((slotR k).emb _))
  rw [inRow_emb, inRow_emb]

/-! ## The signals -/

/-- What the signal at offset `o` takes. -/
def sigRes (K : GSem nD τ sig → ℕ) (c : Dev nD) (o : Fin 15) : sProp 𝕄 :=
  iprop(cellInv ER (rd m) (K (barCell (peer c o))) (barCell (peer c o)) ∗ dutyTok ER (barCell (peer c o)) 0 o
    ∗ barPay (peer c o) o ∗ reached ER (barCell (peer c o)) 0)

theorem wp_signals (K : GSem nD τ sig → ℕ) (c : Dev nD) (O : CellTallies nD τ sig Unit) (W : Waits sig Unit)
    (k : TcProg F) (Q : PUnit → sProp 𝕄) :
    ∀ l : List (Fin 15), iprop(bigSepL l (sigRes m K c) ∗ owes (c : Thread nD τ) (O + oweBar c l) W
        ∗ (owes (c : Thread nD τ) O W -∗ wp frame (wpE (defs₀ (F := F)) 𝒱₀ c none) Set.univ k Q))
      ⊢ wp frame (wpE (defs₀ (F := F)) 𝒱₀ c none) Set.univ (signals (peer c) l k) Q
  | [] => by
    show iprop(_ ∗ owes (c : Thread nD τ) (O + 0) W ∗ _) ⊢ _
    rw [add_zero]
    iintro ⟨-, HO, Hk⟩
    iapply Hk; iexact HO
  | o :: l => by
    rw [bigSepL_cons', show O + oweBar c (o :: l) = (O + oweBar c l) + tallyAt (barCell (peer c o)) () 1 from by
      unfold oweBar; rw [List.map_cons, List.sum_cons, add_comm (tallyAt _ _ _), add_assoc]]
    unfold sigRes
    show _ ⊢ wp _ _ _ (.op (.semSignal (peer c o : Thread nD τ) barS (1#32).toInt) fun _ => signals (peer c) l k) Q
    iintro ⟨⟨⟨HI, Ht, Hp, Hr⟩, Hl⟩, HO, Hk⟩
    iapply (Rounds.wp_signal 𝒱₀ ER (rd m) (c : Thread nD τ) none (dst := (peer c o : Thread nD τ)) (sem := barS) (r := 0) (d := o)
        (κ := K (barCell (peer c o))) (by rw [duties_bar]; exact Finset.mem_univ _) (amount_bar m (peer c o) o) () (O + oweBar c l) rfl)
      $$ [HI Ht Hp Hr HO]
    · isplitl [HI]; · iexact HI
      isplitl [HO]; · iexact HO
      isplitl [Ht]; · iexact Ht
      isplitl [Hp]; · rw [payload_bar]; iexact Hp
      iexact Hr
    iintro HO
    iapply (wp_signals K c O W k Q l)
    unfold sigRes
    isplitl [Hl]; · iexact Hl
    isplitl [HO]; · iexact HO
    iexact Hk

/-! ## The copies -/

/-- What the copy at offset `o` takes. -/
def sndRes (K : GSem nD τ sig → ℕ) (c : Dev nD) (o : Fin 15) : sProp 𝕄 :=
  iprop(cellInv ER (rd m) (K (sendCell c o)) (sendCell c o) ∗ cellInv ER (rd m) (K (recvCell (peer c o) o)) (recvCell (peer c o) o)
    ∗ slotPts c 0 (share o.succ) (fill (part m c)) ∗ (∃ f, slotPts (peer c o) o.succ fullShare f)
    ∗ dutyTok ER (sendCell c o) 0 0 ∗ reached ER (sendCell c o) 0
    ∗ dutyTok ER (recvCell (peer c o) o) 0 0 ∗ reached ER (recvCell (peer c o) o) 0)

theorem wp_sends (K : GSem nD τ sig → ℕ) (c : Dev nD) (O : CellTallies nD τ sig Unit) (W : Waits sig Unit)
    (k : TcProg F) (Q : PUnit → sProp 𝕄) :
    ∀ l : List (Fin 15), iprop(bigSepL l (sndRes m K c) ∗ owes (c : Thread nD τ) (O + oweRecv c l) W
        ∗ (iprop(bigSepL l (fun o => (cred (tallyAt (sendCell c o) () N) : sProp 𝕄)) ∗ owes (c : Thread nD τ) O W)
            -∗ wp frame (wpE (defs₀ (F := F)) 𝒱₀ c none) Set.univ k Q))
      ⊢ wp frame (wpE (defs₀ (F := F)) 𝒱₀ c none) Set.univ (sends (peer c) l k) Q
  | [] => by
    show iprop(_ ∗ owes (c : Thread nD τ) (O + 0) W ∗ _) ⊢ _
    rw [add_zero]
    iintro ⟨Hl, HO, Hk⟩
    iapply Hk
    isplitl [Hl]; · iexact Hl
    iexact HO
  | o :: l => by
    rw [bigSepL_cons', bigSepL_cons', show O + oweRecv c (o :: l) = (O + oweRecv c l) + tallyAt (recvCell (peer c o) o) () N from by
      unfold oweRecv; rw [List.map_cons, List.sum_cons, add_comm (tallyAt _ _ _), add_assoc]]
    unfold sndRes
    unfold slotPts
    show _ ⊢ wp _ _ _ (.op (.enqueueDma (slotM 0) (.remote (Dev.tc (peer c o)) (slotM o.succ) (.dma (sendS o))) (.dma (recvS o))
      ((View.wordExact_bits rfl).reshape _ _) ((View.wordExact_bits rfl).reshape _ _) ⟨⟨rfl, Or.inl rfl⟩, trivial⟩) fun _ => sends (peer c) l k) Q
    iintro ⟨⟨⟨HI, HI', Hs, ⟨%f, Hd⟩, Ht, Hr, Ht', Hr'⟩, Hl⟩, HO, Hk⟩
    iapply (Rounds.wp_send_pointsTo 𝒱₀ ER (rd m) (c : Thread nD τ) none (c' := (peer c o : Thread nD τ)) (src := slotM 0) (dst := slotM o.succ)
        (sS := .dma (sendS o)) (sem := .dma (recvS o)) (q := share o.succ) (fs := fill (part m c)) (fd := f)
        (κ₁ := K (sendCell c o)) (κ₂ := K (recvCell (peer c o) o)) (r₁ := 0) (r₂ := 0) (d₁ := 0) (d₂ := 0)
        (by rw [duties_send]; exact Finset.mem_singleton_self _) (by rw [duties_recv]; exact Finset.mem_singleton_self _)
        () () N rfl (amount_send m c o 0) (amount_recv m (peer c o) o 0) (O + oweRecv c l) rfl (W := W)
        (by rw [payload_send]; exact BI.Entails.refl _)
        (by
          rw [payload_recv]; unfold recvPay slotPts; rw [back_peer]
          exact Entails.of_eq (pointsTo_congr (land_slot o.succ f (part m c)))))
      $$ [HI HI' Hs Hd Ht Hr Ht' Hr' HO]
    · isplitl [HI]; · iexact HI
      isplitl [HI']; · iexact HI'
      isplitl [Hs]; · iexact Hs
      isplitl [Hd]; · iexact Hd
      isplitl [HO]; · iexact HO
      isplitl [Ht]; · iexact Ht
      isplitl [Hr]; · iexact Hr
      isplitl [Ht']; · iexact Ht'
      iexact Hr'
    iintro ⟨Hc, HO⟩
    iapply (wp_sends K c O W k Q l)
    unfold sndRes slotPts
    isplitl [Hl]; · iexact Hl
    isplitl [HO]; · iexact HO
    iintro ⟨Hcs, HO⟩
    iapply Hk
    isplitl [Hc Hcs]; · isplitl [Hc] <;> iassumption
    iexact HO

/-! ## The arrivals -/

/-- What awaiting row `o + 1` takes. -/
def gthRes (K : GSem nD τ sig → ℕ) (c : Dev nD) (o : Fin 15) : sProp 𝕄 :=
  iprop(cellInv ER (rd m) (K (recvCell c o)) (recvCell c o) ∗ cred (tallyAt (recvCell c o) () N) ∗ atPos ER (recvCell c o) 0 ∅ 0)

/-- The running sum once the rows at the offsets `l` are added to `acc`. -/
def rowsSum (c : Dev nD) (l : List (Fin 15)) (acc : FVec F S8x128 .f32) : FVec F S8x128 .f32 :=
  l.foldl (fun a o => addRow a (part m (back c o))) acc

theorem wp_gathers (K : GSem nD τ sig → ℕ) (c : Dev nD) (k : FVec F S8x128 .f32 → TcProg F) (Q : PUnit → sProp 𝕄) :
    ∀ (l : List (Fin 15)) (acc : FVec F S8x128 .f32) (W : Waits sig Unit),
      iprop(bigSepL l (gthRes m K c) ∗ owes (c : Thread nD τ) (0 : CellTallies nD τ sig Unit) W
        ∗ (iprop(bigSepL l (fun o => iprop(atPos ER (recvCell c o) (0 + 1) ∅ 0 ∗ recvPay m c o))
              ∗ ∃ W', owes (c : Thread nD τ) (0 : CellTallies nD τ sig Unit) W')
            -∗ wp frame (wpE (defs₀ (F := F)) 𝒱₀ c none) Set.univ (k (rowsSum m c l acc)) Q))
      ⊢ wp frame (wpE (defs₀ (F := F)) 𝒱₀ c none) Set.univ (gathers l acc k) Q
  | [], acc, W => by
    iintro ⟨Hl, HO, Hk⟩
    iapply Hk
    isplitl [Hl]; · iexact Hl
    iexists W; iexact HO
  | o :: l, acc, W => by
    rw [bigSepL_cons', bigSepL_cons']
    unfold gthRes
    show _ ⊢ wp _ _ _ (.op (.waitDma2 (recvS o) (slotM 0) (slotM o.succ) ((View.wordExact_bits rfl).reshape _ _)
      ((View.wordExact_bits rfl).reshape _ _)) fun _ => .op (loadSlot o) fun v => gathers l (addRow acc v) k) Q
    iintro ⟨⟨⟨HI, Hc, Ha⟩, Hl⟩, HO, Hk⟩
    iapply (Rounds.wp_wait_rest_token 𝒱₀ ER (rd m) (c : Thread nD τ) none (κ := K (recvCell c o))
        (wpE_waitDma2_eq 𝒱₀ (c : Thread nD τ) none Set.univ) (Set.mem_univ _) () (O := 0) (W := W) (R := 0) (m := 0) (T := ∅)
        ((Nat.zero_add (slotM o.succ).view.dmaCredit).trans (expect_recv m c o).symm)) $$ [HI Hc HO Ha]
    · isplitl [HI]; · iexact HI
      isplitl [Hc]; · iexact Hc
      isplitl [HO]; · iexact HO
      isplitr; · rw [MayWait_zero]; iempintro
      iexact Ha
    iintro ⟨HO, Ha, -, Hp⟩
    ihave Hp := (Entails.of_eq ((rest_recv m c o).trans (by unfold recvPay slotPts; rfl))) $$ Hp
    iapply (wp_load 𝒱₀ (c : Thread nD τ) none Set.univ (m := rM) (r := (slotR o.succ).toLoadRect) (load_sub o.succ)) $$ Hp
    iintro Hp
    rw [read_slot]
    iapply (wp_gathers K c k Q l (addRow acc (part m (back c o))) _)
    unfold gthRes
    isplitl [Hl]; · iexact Hl
    isplitl [HO]; · iexact HO
    iintro ⟨Hl, HO⟩
    iapply Hk
    isplitl [Ha Hp Hl]
    · isplitl [Ha Hp]
      · isplitl [Ha]; · iexact Ha
        unfold recvPay slotPts
        iexact Hp
      iexact Hl
    iexact HO

/-! ## The copies' completion at their source -/

/-- What awaiting this device's own copy at offset `o` takes. -/
def drnRes (K : GSem nD τ sig → ℕ) (c : Dev nD) (o : Fin 15) : sProp 𝕄 :=
  iprop(cellInv ER (rd m) (K (sendCell c o)) (sendCell c o) ∗ cred (tallyAt (sendCell c o) () N) ∗ atPos ER (sendCell c o) 0 ∅ 0)

theorem wp_drains (K : GSem nD τ sig → ℕ) (c : Dev nD) (k : TcProg F) (Q : PUnit → sProp 𝕄) :
    ∀ (l : List (Fin 15)) (W : Waits sig Unit),
      iprop(bigSepL l (drnRes m K c) ∗ owes (c : Thread nD τ) (0 : CellTallies nD τ sig Unit) W
        ∗ (iprop(bigSepL l (fun o => iprop(atPos ER (sendCell c o) (0 + 1) ∅ 0 ∗ sendPay m c o))
              ∗ ∃ W', owes (c : Thread nD τ) (0 : CellTallies nD τ sig Unit) W')
            -∗ wp frame (wpE (defs₀ (F := F)) 𝒱₀ c none) Set.univ k Q))
      ⊢ wp frame (wpE (defs₀ (F := F)) 𝒱₀ c none) Set.univ (drains l k) Q
  | [], W => by
    iintro ⟨Hl, HO, Hk⟩
    iapply Hk
    isplitl [Hl]; · iexact Hl
    iexists W; iexact HO
  | o :: l, W => by
    rw [bigSepL_cons', bigSepL_cons']
    unfold drnRes
    show _ ⊢ wp _ _ _ (.op (.waitDma2 (sendS o) (slotM o.succ) (slotM 0) ((View.wordExact_bits rfl).reshape _ _)
      ((View.wordExact_bits rfl).reshape _ _)) fun _ => drains l k) Q
    iintro ⟨⟨⟨HI, Hc, Ha⟩, Hl⟩, HO, Hk⟩
    iapply (Rounds.wp_wait_rest_token 𝒱₀ ER (rd m) (c : Thread nD τ) none (κ := K (sendCell c o))
        (wpE_waitDma2_eq 𝒱₀ (c : Thread nD τ) none Set.univ) (Set.mem_univ _) () (O := 0) (W := W) (R := 0) (m := 0) (T := ∅)
        ((Nat.zero_add _).trans (expect_send m c o).symm)) $$ [HI Hc HO Ha]
    · isplitl [HI]; · iexact HI
      isplitl [Hc]; · iexact Hc
      isplitl [HO]; · iexact HO
      isplitr; · rw [MayWait_zero]; iempintro
      iexact Ha
    iintro ⟨HO, Ha, -, Hp⟩
    ihave Hp := (Entails.of_eq (rest_send m c o)) $$ Hp
    iapply (wp_drains K c k Q l _)
    unfold drnRes
    isplitl [Hl]; · iexact Hl
    isplitl [HO]; · iexact HO
    iintro ⟨Hl, HO⟩
    iapply Hk
    isplitl [Ha Hp Hl]
    · isplitl [Ha Hp]
      · isplitl [Ha] <;> iassumption
      iexact Hl
    iexact HO

/-! ## Opening and closing the cells -/

/-- Cells past their round are closed together: every counter comes back at zero. -/
theorem close_all (K : GSem nD τ sig → ℕ) (g : Fin 15 → GSem nD τ sig) :
    ∀ l : List (Fin 15), iprop(bigSepL l (fun o => iprop(cellInv ER (rd (F := F) m) (K (g o)) (g o) ∗ atPos ER (g o) (0 + 1) ∅ 0)))
      ⊢ (|={Set.univ}=> bigSepL l (fun o => semVal (g o) 0) : sProp 𝕄)
  | [] => by iintro H; imodintro; iexact H
  | o :: l => by
    rw [bigSepL_cons', bigSepL_cons']
    iintro ⟨H, Hl⟩
    imod (close m (K (g o)) (g o)) $$ [H] with Hs
    · iexact H
    imod (close_all K g l) $$ [Hl] with Hss
    · iexact Hl
    imodintro
    isplitl [Hs] <;> iassumption

/-- Dormant cells are opened together from their counters at zero. -/
theorem open_all (K : GSem nD τ sig → ℕ) (g : Fin 15 → GSem nD τ sig) :
    ∀ l : List (Fin 15), iprop(bigSepL l (fun o => iprop(cellInv ER (rd (F := F) m) (K (g o)) (g o) ∗ openTok ER (g o) ∗ semVal (g o) 0)))
      ⊢ (|={Set.univ}=> bigSepL l (fun o => iprop(atPos ER (g o) 0 ∅ 0 ∗ reached ER (g o) 0)) : sProp 𝕄)
  | [] => by iintro H; imodintro; iexact H
  | o :: l => by
    rw [bigSepL_cons', bigSepL_cons']
    iintro ⟨H, Hl⟩
    imod (Rounds.cell_open ER (rd m) (g := g o) (Set.mem_univ (K (g o)))) $$ [H] with Hs
    · iexact H
    imod (open_all K g l) $$ [Hl] with Hss
    · iexact Hl
    imodintro
    isplitl [Hs] <;> iassumption

end Cert.RmsProof
-- ==== Proof.Body.lean ====
/-
# 01_k — the body, run

One device's body from its ghost state and its buffers (`bodyPre`) to its result (`bodyPost`): the exchange buffer cut into
its rows, the loops of Steps.lean one after the other, the rows joined again, every cell closed.
-/
module

public import proofs.«01_k».proof.Proof.Steps

@[expose] public section

noncomputable section

namespace Cert.RmsProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over the offsets -/

/-- A family over the offsets, as the list of them. -/
theorem univ_offs (Φ : Fin 15 → sProp 𝕄) : bigSep Finset.univ Φ = bigSepL offs Φ :=
  bigSep_univ_eq_bigSepL offs (by decide) (by decide) Φ

/-- A family over the offsets, counted from the other end. -/
theorem univ_rev (Φ : Fin 15 → sProp 𝕄) : bigSep Finset.univ Φ = bigSep Finset.univ fun o : Fin 15 => Φ o.rev :=
  bigSep_univ_equiv Fin.revPerm Φ

/-- A family over the rows: row 0, and row `o + 1` for each offset. -/
theorem univ_rows (Φ : Fin 16 → sProp 𝕄) : bigSep Finset.univ Φ = iprop(Φ 0 ∗ bigSep Finset.univ fun o : Fin 15 => Φ o.succ) := by
  rw [Fin.univ_succ, Finset.cons_eq_insert, BI.bigSep_insert (by simp), BI.bigSep_map]; rfl

/-- A family gives any of its members; -/
theorem fam_elim {ι : Type} [Fintype ι] (Φ : ι → sProp 𝕄) (i : ι) : bigSep Finset.univ Φ ⊢ Φ i := by
  classical exact bigSep_elim (Finset.mem_univ i)
/-- it follows member by member; -/
theorem fam_mono {ι : Type} [Fintype ι] {Φ Ψ : ι → sProp 𝕄} (h : ∀ i, Φ i ⊢ Ψ i) : bigSep Finset.univ Φ ⊢ bigSep Finset.univ Ψ :=
  bigSep_mono fun i _ => h i
/-- two families are one of pairs, -/
theorem fam_pair {ι : Type} [Fintype ι] {Φ Ψ : ι → sProp 𝕄} :
    iprop(bigSep Finset.univ Φ ∗ bigSep Finset.univ Ψ) ⊢ bigSep Finset.univ fun i => iprop(Φ i ∗ Ψ i) :=
  Entails.of_eq (bigSep_sep' _ _ _).symm
/-- and back. -/
theorem fam_unpair {ι : Type} [Fintype ι] {Φ Ψ : ι → sProp 𝕄} :
    (bigSep Finset.univ fun i => iprop(Φ i ∗ Ψ i)) ⊢ iprop(bigSep Finset.univ Φ ∗ bigSep Finset.univ Ψ) :=
  Entails.of_eq (bigSep_sep' _ _ _)

/-! ## What every device may consult -/

/-- Every cell's invariant under the names `κ`, and that every barrier cell is open. -/
def records (κ : GSem nD τ sig → ℕ) : sProp 𝕄 :=
  iprop((bigSep Finset.univ fun c : Dev nD => cellInv ER (rd m) (κ (barCell c)) (barCell c))
    ∗ (bigSep Finset.univ fun x : Dev nD × Fin 15 => cellInv ER (rd m) (κ (sendCell x.1 x.2)) (sendCell x.1 x.2))
    ∗ (bigSep Finset.univ fun x : Dev nD × Fin 15 => cellInv ER (rd m) (κ (recvCell x.1 x.2)) (recvCell x.1 x.2))
    ∗ bigSep Finset.univ fun c : Dev nD => reached ER (barCell c) 0)

instance records_persistent (κ : GSem nD τ sig → ℕ) : BI.Persistent (records (F := F) m κ) := by unfold records; infer_instance

section Consult
variable (κ : GSem nD τ sig → ℕ) (c : Dev nD) (o : Fin 15)

theorem records_bar : records (F := F) m κ ⊢ cellInv ER (rd m) (κ (barCell c)) (barCell c) := by
  unfold records
  iintro ⟨H, -⟩
  iapply (fam_elim (F := F) (fun c : Dev nD => (cellInv ER (rd m) (κ (barCell c)) (barCell c) : sProp 𝕄)) c); iexact H
theorem records_send : records (F := F) m κ ⊢ cellInv ER (rd m) (κ (sendCell c o)) (sendCell c o) := by
  unfold records
  iintro ⟨-, H, -⟩
  iapply (fam_elim (F := F) (fun x : Dev nD × Fin 15 => (cellInv ER (rd m) (κ (sendCell x.1 x.2)) (sendCell x.1 x.2) : sProp 𝕄)) (c, o))
  iexact H
theorem records_recv : records (F := F) m κ ⊢ cellInv ER (rd m) (κ (recvCell c o)) (recvCell c o) := by
  unfold records
  iintro ⟨-, -, H, -⟩
  iapply (fam_elim (F := F) (fun x : Dev nD × Fin 15 => (cellInv ER (rd m) (κ (recvCell x.1 x.2)) (recvCell x.1 x.2) : sProp 𝕄)) (c, o))
  iexact H
theorem records_reached : records (F := F) m κ ⊢ reached ER (barCell c) 0 := by
  unfold records
  iintro ⟨-, -, -, H⟩
  iapply (fam_elim (F := F) (fun c : Dev nD => (reached ER (barCell c) 0 : sProp 𝕄)) c); iexact H
end Consult

/-! ## What each loop takes, put together -/

section Gather
variable (κ : GSem nD τ sig → ℕ) (c : Dev nD)

/-- Row `o + 1` of device `c`, at contents not chosen. -/
def rowAny (c : Dev nD) (o : Fin 15) : sProp 𝕄 := iprop(∃ f, slotPts c o.succ fullShare f)

theorem barPay_peer (o : Fin 15) : (barPay (peer c o) o : sProp 𝕄) = iprop(rowAny c o.rev ∗ reached ER (recvCell c o.rev) 0) := by
  unfold barPay rowAny; rw [back_peer]
theorem barPay_rev (o : Fin 15) : (barPay c o.rev : sProp 𝕄) = iprop(rowAny (peer c o) o ∗ reached ER (recvCell (peer c o) o) 0) := by
  unfold barPay rowAny back; rw [Fin.rev_rev]

/-- The signals' resources. -/
theorem sig_intro :
    iprop(records (F := F) m κ ∗ (bigSep Finset.univ fun o => dutyTok ER (barCell (peer c o)) 0 o)
        ∗ (bigSep Finset.univ fun o => rowAny c o) ∗ bigSep Finset.univ fun o => reached ER (recvCell c o) 0)
      ⊢ bigSepL offs (sigRes m κ c) := by
  rw [← univ_offs]
  iintro ⟨#HR, Ht, Hs, Hr⟩
  ihave H1 := fam_pair $$ [Hs Hr]
  · isplitl [Hs] <;> iassumption
  ihave H2 := (Entails.of_eq ((univ_rev (F := F) fun o => iprop(rowAny c o ∗ reached ER (recvCell c o) 0)).trans
    (bigSep_congr fun o _ => (barPay_peer c o).symm))) $$ H1
  ihave H3 := fam_pair $$ [Ht H2]
  · isplitl [Ht] <;> iassumption
  iapply (bigSep_with_persistent (R := records (F := F) m κ)
    (Φ := fun o => iprop(dutyTok ER (barCell (peer c o)) 0 o ∗ barPay (peer c o) o)) (Ψ := sigRes m κ c) fun o _ => by
      unfold sigRes
      iintro ⟨#HR, Ht, Hp⟩
      isplitr; · iapply (records_bar m κ (peer c o)); iexact HR
      isplitl [Ht]; · iexact Ht
      isplitl [Hp]; · iexact Hp
      iapply (records_reached m κ (peer c o)); iexact HR)
  isplitr; · iexact HR
  iexact H3

/-- The copies' resources. -/
theorem snd_intro :
    iprop(records (F := F) m κ ∗ (bigSep Finset.univ fun o : Fin 15 => slotPts c 0 (share o.succ) (fill (part m c)))
        ∗ (bigSep Finset.univ fun o => barPay c o)
        ∗ (bigSep Finset.univ fun o => dutyTok ER (sendCell c o) 0 0) ∗ (bigSep Finset.univ fun o => reached ER (sendCell c o) 0)
        ∗ bigSep Finset.univ fun o => dutyTok ER (recvCell (peer c o) o) 0 0)
      ⊢ bigSepL offs (sndRes m κ c) := by
  rw [← univ_offs]
  iintro ⟨#HR, Hs, Hb, Ht, Hr, Ht'⟩
  ihave Hb := (Entails.of_eq ((univ_rev (F := F) fun o => barPay c o).trans (bigSep_congr fun o _ => barPay_rev c o))) $$ Hb
  ihave H1 := fam_pair $$ [Hr Ht']
  · isplitl [Hr] <;> iassumption
  ihave H2 := fam_pair $$ [Ht H1]
  · isplitl [Ht] <;> iassumption
  ihave H3 := fam_pair $$ [Hb H2]
  · isplitl [Hb] <;> iassumption
  ihave H4 := fam_pair $$ [Hs H3]
  · isplitl [Hs] <;> iassumption
  iapply (bigSep_with_persistent (R := records (F := F) m κ)
    (Φ := fun o : Fin 15 => iprop(slotPts c 0 (share o.succ) (fill (part m c)) ∗ (rowAny (peer c o) o ∗ reached ER (recvCell (peer c o) o) 0)
      ∗ dutyTok ER (sendCell c o) 0 0 ∗ reached ER (sendCell c o) 0 ∗ dutyTok ER (recvCell (peer c o) o) 0 0)) (Ψ := sndRes m κ c) fun o _ => by
      unfold sndRes rowAny
      iintro ⟨#HR, Hs, ⟨Hd, Hr'⟩, Ht, Hr, Ht'⟩
      isplitr; · iapply (records_send m κ c o); iexact HR
      isplitr; · iapply (records_recv m κ (peer c o) o); iexact HR
      isplitl [Hs]; · iexact Hs
      isplitl [Hd]; · iexact Hd
      isplitl [Ht]; · iexact Ht
      isplitl [Hr]; · iexact Hr
      isplitl [Ht']; · iexact Ht'
      iexact Hr')
  isplitr; · iexact HR
  iexact H4

/-- The arrivals' resources. -/
theorem gth_intro :
    iprop(records (F := F) m κ ∗ (bigSep Finset.univ fun o => cred (tallyAt (recvCell c o) () N))
        ∗ bigSep Finset.univ fun o => atPos ER (recvCell c o) 0 ∅ 0)
      ⊢ bigSepL offs (gthRes m κ c) := by
  rw [← univ_offs]
  iintro ⟨#HR, Hc, Ha⟩
  ihave H1 := fam_pair $$ [Hc Ha]
  · isplitl [Hc] <;> iassumption
  iapply (bigSep_with_persistent (R := records (F := F) m κ)
    (Φ := fun o => iprop(cred (tallyAt (recvCell c o) () N) ∗ atPos ER (recvCell c o) 0 ∅ 0)) (Ψ := gthRes m κ c) fun o _ => by
      unfold gthRes
      iintro ⟨#HR, Hc, Ha⟩
      isplitr; · iapply (records_recv m κ c o); iexact HR
      isplitl [Hc] <;> iassumption)
  isplitr; · iexact HR
  iexact H1

/-- The resources of the waits at the copies' source. -/
theorem drn_intro :
    iprop(records (F := F) m κ ∗ (bigSep Finset.univ fun o => cred (tallyAt (sendCell c o) () N))
        ∗ bigSep Finset.univ fun o => atPos ER (sendCell c o) 0 ∅ 0)
      ⊢ bigSepL offs (drnRes m κ c) := by
  rw [← univ_offs]
  iintro ⟨#HR, Hc, Ha⟩
  ihave H1 := fam_pair $$ [Hc Ha]
  · isplitl [Hc] <;> iassumption
  iapply (bigSep_with_persistent (R := records (F := F) m κ)
    (Φ := fun o => iprop(cred (tallyAt (sendCell c o) () N) ∗ atPos ER (sendCell c o) 0 ∅ 0)) (Ψ := drnRes m κ c) fun o _ => by
      unfold drnRes
      iintro ⟨#HR, Hc, Ha⟩
      isplitr; · iapply (records_send m κ c o); iexact HR
      isplitl [Hc] <;> iassumption)
  isplitr; · iexact HR
  iexact H1

/-- Cells past their round, whose invariants the records hold, are closed together. -/
theorem close_fam (g : Fin 15 → GSem nD τ sig) (hg : ∀ o, records (F := F) m κ ⊢ cellInv ER (rd m) (κ (g o)) (g o)) :
    iprop(records (F := F) m κ ∗ bigSep Finset.univ fun o => atPos ER (g o) (0 + 1) ∅ 0)
      ⊢ (|={Set.univ}=> bigSep Finset.univ fun o => semVal (g o) 0 : sProp 𝕄) := by
  rw [univ_offs (F := F) fun o => semVal (g o) 0]
  refine BIBase.Entails.trans ?_ (close_all m κ g offs)
  rw [← univ_offs]
  refine bigSep_with_persistent (R := records (F := F) m κ) fun o _ => ?_
  iintro ⟨#HR, Ha⟩
  isplitr; · iapply (hg o); iexact HR
  iexact Ha

/-- Dormant cells whose invariants the records hold are opened together. -/
theorem open_fam (g : Fin 15 → GSem nD τ sig) (hg : ∀ o, records (F := F) m κ ⊢ cellInv ER (rd m) (κ (g o)) (g o)) :
    iprop(records (F := F) m κ ∗ (bigSep Finset.univ fun o => openTok ER (g o)) ∗ bigSep Finset.univ fun o => semVal (g o) 0)
      ⊢ (|={Set.univ}=> iprop((bigSep Finset.univ fun o => atPos ER (g o) 0 ∅ 0) ∗ bigSep Finset.univ fun o => reached ER (g o) 0) : sProp 𝕄) := by
  refine BIBase.Entails.trans ?_ (fupd_mono (Entails.of_eq ((univ_offs (F := F) _).symm.trans (bigSep_sep' _ _ _))))
  refine BIBase.Entails.trans ?_ (open_all m κ g offs)
  rw [← univ_offs (F := F), ← bigSep_sep' Finset.univ (fun o => openTok ER (g o)) fun o => semVal (g o) 0]
  refine bigSep_with_persistent (R := records (F := F) m κ) fun o _ => ?_
  iintro ⟨#HR, Ho, Hs⟩
  isplitr; · iapply (hg o); iexact HR
  isplitl [Ho] <;> iassumption
end Gather

/-! ## The exchange buffer, whole and in rows -/

abbrev scrLoc (c : Dev nD) : Loc nD τ sig := (c : Thread nD τ).loc cc0_scratch0

theorem slots_disjoint : ∀ k k' : Fin 16, k ≠ k' → Disjoint (slotR k).set (slotR k').set := fun k k' h => by
  rw [Finset.disjoint_left]
  intro i hi hi'
  exact h (Fin.ext (((mem_slot k i).mp hi).symm.trans ((mem_slot k' i).mp hi')))

theorem slots_cover : Finset.univ.biUnion (fun k : Fin 16 => (slotR k).set) = Finset.univ := by
  ext i
  simp only [Finset.mem_biUnion, Finset.mem_univ, true_and, iff_true]
  exact ⟨i 0, (mem_slot (i 0) i).mpr rfl⟩

theorem slotPts_eq (c : Dev nD) (k : Fin 16) (q : PosShare TreeShare) (f : Buf (Elt F) (scrLoc c)) :
    (slotPts c k q f : sProp 𝕄) = (scrLoc c ↦[(slotR k).set]{q} f) := by
  unfold slotPts; rw [slot_set]

/-- The whole buffer is its rows; -/
theorem scr_split (c : Dev nD) (f : Buf (Elt F) (scrLoc c)) :
    (scrLoc c ↦{fullShare} f : sProp 𝕄) ⊢ iprop(slotPts c 0 fullShare f ∗ bigSep Finset.univ fun o => rowAny c o) := by
  rw [Ring.pointsTo_blocks (ℓ := scrLoc c) (fun k : Fin 16 => (slotR k).set) slots_disjoint slots_cover f, univ_rows, slotPts_eq]
  refine sep_mono_right (fam_mono fun o => ?_)
  unfold rowAny
  rw [← slotPts_eq]
  iintro H; iexists f; iexact H

/-- and the rows, at whatever contents, are the buffer at some contents. -/
theorem scr_join (c : Dev nD) (f₀ : Buf (Elt F) (scrLoc c)) :
    iprop(slotPts c 0 fullShare f₀ ∗ bigSep Finset.univ fun o => rowAny c o) ⊢ (iprop(∃ f, scrLoc c ↦{fullShare} f) : sProp 𝕄) := by
  refine BIBase.Entails.trans ?_ (Ring.pointsTo_blocks_join_exists (ℓ := scrLoc c) (fun k : Fin 16 => (slotR k).set) slots_disjoint slots_cover f₀)
  rw [univ_rows]
  iintro ⟨H0, Hr⟩
  isplitl [H0]; · iexists f₀; rw [← slotPts_eq]; iexact H0
  iapply (fam_mono (F := F) (Φ := fun o => rowAny c o) (Ψ := fun o : Fin 15 => iprop(∃ f, scrLoc c ↦[(slotR o.succ).set]{fullShare} f)) fun o => by
    unfold rowAny
    iintro ⟨%f, H⟩; iexists f; rw [← slotPts_eq]; iexact H)
  iexact Hr

/-- Row 0 is lent in shares, one kept and one for each copy. -/
theorem slot0_shares (c : Dev nD) (f : Buf (Elt F) (scrLoc c)) :
    (slotPts c 0 fullShare f : sProp 𝕄) = iprop(slotPts c 0 (share 0) f ∗ bigSep Finset.univ fun o : Fin 15 => slotPts c 0 (share o.succ) f) := by
  have h : (slotPts c 0 fullShare f : sProp 𝕄) = bigSep Finset.univ fun k : Fin 16 => slotPts c 0 (share k) f :=
    ShareLeaves.pointsTo_leaves (ℓ := scrLoc c) (slotM 0).view.set f 4 fullShare
  rw [h, univ_rows]

/-! ## Whole-buffer loads and stores -/

theorem zero_pair : (![0, 0] : Fin 2 → ℕ) = fun _ => 0 := by funext a; fin_cases a <;> rfl

theorem read_x (f : (cc0_stg0_0 : Ref sig .tc).ty.Contents (Elt F)) :
    xM.view.readAt (Elt F) (Rect.unit (s := S1024x512) ![0, 0] S1024x512.size inb_S1024x512_S1024x512_0_0).toLoadRect f = f :=
  Memref.readAt_unit_zero (Elt F) cc0_stg0_0 zero_pair _ f
theorem read_g (f : (cc0_stg1_0 : Ref sig .tc).ty.Contents (Elt F)) :
    gM.view.readAt (Elt F) (Rect.unit (s := S1x512) ![0, 0] S1x512.size inb_S1x512_S1x512_0_0).toLoadRect f = f :=
  Memref.readAt_unit_zero (Elt F) cc0_stg1_0 zero_pair _ f
theorem write_o (f w : (cc0_stg2_0 : Ref sig .tc).ty.Contents (Elt F)) :
    (oM.access (Rect.unit (s := S1024x512) ![0, 0] S1024x512.size inb_S1024x512_S1024x512_0_0) : View sig .tc _ _ _).write (Elt F) f w Finset.univ = w :=
  Memref.write_access_unit_zero_univ (Elt F) cc0_stg2_0 zero_pair _ f w

/-! ## The run -/

/-- What device `c` stores: its block scaled by the reciprocal root of the mean over all the devices. -/
def outAt (c : Dev nD) : FVec F S1024x512 .bf16 := scaled (xblk m c) (gblk m c) (rowsSum m c offs (k0_pay3 (xblk m c)))

/-- The tokens, credits and positions device `c` uses. -/
def ghost (c : Dev nD) : sProp 𝕄 :=
  iprop(atPos ER (barCell c) 0 ∅ 0 ∗ cred (tallyAt (barCell c) () 15)
    ∗ (bigSep Finset.univ fun o => dutyTok ER (barCell (peer c o)) 0 o)
    ∗ (bigSep Finset.univ fun o => dutyTok ER (sendCell c o) 0 0)
    ∗ (bigSep Finset.univ fun o => dutyTok ER (recvCell (peer c o) o) 0 0)
    ∗ bigSep Finset.univ fun o => cred (tallyAt (recvCell c o) () N))

/-- What opening its send and receive cells gives it. -/
def opened (c : Dev nD) : sProp 𝕄 :=
  iprop((bigSep Finset.univ fun o => atPos ER (sendCell c o) 0 ∅ 0) ∗ (bigSep Finset.univ fun o => reached ER (sendCell c o) 0)
    ∗ (bigSep Finset.univ fun o => atPos ER (recvCell c o) 0 ∅ 0) ∗ bigSep Finset.univ fun o => reached ER (recvCell c o) 0)

abbrev xPts (c : Dev nD) (f : Vec F S1024x512 .f32) : sProp 𝕄 := ((c : Thread nD τ).loc cc0_stg0_0) ↦{fullShare} f
abbrev gPts (c : Dev nD) (f : Vec F S1x512 .f32) : sProp 𝕄 := ((c : Thread nD τ).loc cc0_stg1_0) ↦{fullShare} f
abbrev oPts (c : Dev nD) (f : Vec F S1024x512 .bf16) : sProp 𝕄 := ((c : Thread nD τ).loc cc0_stg2_0) ↦{fullShare} f

def bodyPre (κ : GSem nD τ sig → ℕ) (c : Dev nD) (W : Waits sig Unit) (fo : Vec F S1024x512 .bf16) : sProp 𝕄 :=
  iprop(records m κ ∗ levAts L lv ∗ ghost c ∗ opened c ∗ (∃ f, scrLoc c ↦{fullShare} f) ∗ owes (c : Thread nD τ) (O₀ c) W
    ∗ xPts c (xblk m c) ∗ gPts c (gblk m c) ∗ oPts c fo)

def bodyPost (c : Dev nD) : sProp 𝕄 :=
  iprop((semVal (barCell c) 0 ∗ (bigSep Finset.univ fun o => semVal (sendCell c o) 0) ∗ bigSep Finset.univ fun o => semVal (recvCell c o) 0)
    ∗ (∃ f, scrLoc c ↦{fullShare} f) ∗ (∃ W, owes (c : Thread nD τ) (0 : CellTallies nD τ sig Unit) W)
    ∗ xPts c (xblk m c) ∗ gPts c (gblk m c) ∗ oPts c (outAt m c))

set_option maxHeartbeats 800000 in
/-- The body after the barrier, from the rows the barrier handed over. -/
theorem run_exchange (κ : GSem nD τ sig → ℕ) (c : Dev nD) (W : Waits sig Unit) (fo : Vec F S1024x512 .bf16) (Q : PUnit → sProp 𝕄) :
    iprop((records m κ ∗ atPos ER (barCell c) (0 + 1) ∅ 0 ∗ bigSep Finset.univ (fun o => barPay (F := F) c o)
        ∗ (bigSep Finset.univ fun o => dutyTok ER (sendCell c o) 0 0)
        ∗ (bigSep Finset.univ fun o => dutyTok ER (recvCell (peer c o) o) 0 0)
        ∗ (bigSep Finset.univ fun o => cred (tallyAt (recvCell c o) () N))
        ∗ opened c ∗ slotPts c 0 fullShare (fill (part m c)) ∗ owes (c : Thread nD τ) (oweRecv c offs) W
        ∗ xPts c (xblk m c) ∗ gPts c (gblk m c) ∗ oPts c fo)
        ∗ (bodyPost m c -∗ Q ⟨⟩))
      ⊢ wp frame (wpE (defs₀ (F := F)) 𝒱₀ c none) Set.univ (exchange c (xblk m c)) Q := by
  unfold exchange opened
  rw [dstDev_eq, slot0_shares]
  iintro ⟨⟨#HR, HaB, Hb, Ht, Ht', Hcr, ⟨HaS, HrS, HaR, -⟩, ⟨Hs0, Hsh⟩, HO, Hx, Hg, Ho⟩, Hk⟩
  iapply (wp_sends m κ c 0 W _ Q offs)
  isplitl [Hb Ht Ht' HrS Hsh]
  · iapply (snd_intro m κ c)
    isplitr; · iexact HR
    isplitl [Hsh]; · iexact Hsh
    isplitl [Hb]; · iexact Hb
    isplitl [Ht]; · iexact Ht
    isplitl [HrS] <;> iassumption
  isplitl [HO]; · rw [zero_add]; iexact HO
  iintro ⟨HcS, HO⟩
  ihave HcS := (Entails.of_eq (univ_offs (F := F) fun o => cred (tallyAt (sendCell c o) () N)).symm) $$ HcS
  iapply (wp_load 𝒱₀ (c : Thread nD τ) none Set.univ (m := gM) (Finset.subset_univ _)) $$ Hg
  iintro Hg
  rw [read_g]
  iapply (wp_gathers m κ c _ Q offs _ W)
  isplitl [Hcr HaR]
  · iapply (gth_intro m κ c)
    isplitr; · iexact HR
    isplitl [Hcr] <;> iassumption
  isplitl [HO]; · iexact HO
  iintro ⟨Hl, ⟨%W', HO⟩⟩
  ihave Hl := (Entails.of_eq ((univ_offs (F := F) _).symm.trans (bigSep_sep' _ _ _))) $$ Hl
  icases Hl with ⟨HaR, HpR⟩
  iapply (wp_drains m κ c _ Q offs W')
  isplitl [HcS HaS]
  · iapply (drn_intro m κ c)
    isplitr; · iexact HR
    isplitl [HcS] <;> iassumption
  isplitl [HO]; · iexact HO
  iintro ⟨Hl, ⟨%W'', HO⟩⟩
  ihave Hl := (Entails.of_eq ((univ_offs (F := F) _).symm.trans (bigSep_sep' _ _ _))) $$ Hl
  icases Hl with ⟨HaS, HpS⟩
  unfold finish
  iapply (wp_load 𝒱₀ (c : Thread nD τ) none Set.univ (m := oM) (Finset.subset_univ _)) $$ Ho
  iintro Ho
  iapply (wp_store 𝒱₀ (c : Thread nD τ) none Set.univ (m := oM)
    (r := Rect.unit (s := S1024x512) ![0, 0] S1024x512.size inb_S1024x512_S1024x512_0_0) (Mk := Finset.univ) (Finset.subset_univ _)) $$ Ho
  iintro Ho
  rw [write_o, wp_ret]
  imod (close m (κ (barCell c)) (barCell c)) $$ [HaB] with HzB
  · isplitr; · iapply (records_bar m κ c); iexact HR
    iexact HaB
  imod (close_fam m κ (fun o => sendCell c o) (records_send m κ c)) $$ [HaS] with HzS
  · isplitr; · iexact HR
    iexact HaS
  imod (close_fam m κ (fun o => recvCell c o) (records_recv m κ c)) $$ [HaR] with HzR
  · isplitr; · iexact HR
    iexact HaR
  imodintro
  iapply Hk
  unfold bodyPost
  isplitl [HzB HzS HzR]
  · isplitl [HzB]; · iexact HzB
    isplitl [HzS] <;> iassumption
  isplitl [Hs0 HpS HpR]
  · iapply (scr_join c (fill (part m c)))
    isplitl [Hs0 HpS]
    · rw [slot0_shares]
      isplitl [Hs0]; · iexact Hs0
      iapply (fam_mono (F := F) (Φ := fun o => sendPay m c o) (Ψ := fun o : Fin 15 => slotPts c 0 (share o.succ) (fill (part m c))) fun o => by
        unfold sendPay; exact BI.Entails.refl _); iexact HpS
    · iapply (fam_mono (F := F) (Φ := fun o => recvPay m c o) (Ψ := fun o => rowAny c o) fun o => by
        unfold recvPay rowAny; iintro H; iexists _; iexact H); iexact HpR
  isplitl [HO]; · iexists W''; iexact HO
  isplitl [Hx]; · iexact Hx
  isplitl [Hg]; · iexact Hg
  unfold outAt
  iexact Ho

set_option maxHeartbeats 800000 in
/-- THE BODY on device `c`. -/
theorem run_body (κ : GSem nD τ sig → ℕ) (c : Dev nD) (W : Waits sig Unit) (fo : Vec F S1024x512 .bf16) (Q : PUnit → sProp 𝕄) :
    iprop(bodyPre m κ c W fo ∗ (bodyPost m c -∗ Q ⟨⟩))
      ⊢ wp frame (wpE (defs₀ (F := F)) 𝒱₀ c none) Set.univ
          (cc0_body xM (Memref.isWhole_whole _) gM (Memref.isWhole_whole _) oM (Memref.isWhole_whole _) rM (Memref.isWhole_whole _) cc0_scratch1 cc0_scratch2) Q := by
  rw [body_eq]
  simp only [wp_deviceId]
  unfold bodyPre ghost opened O₀
  show _ ⊢ wp _ _ _ (body c) Q
  unfold body
  rw [sigDev_eq]
  iintro ⟨⟨#HR, #Hlev, ⟨HaB, HcB, HtB, Ht, Ht', Hcr⟩, ⟨HaS, HrS, HaR, #HrR⟩, ⟨%f, Hscr⟩, HO, Hx, Hg, Ho⟩, Hk⟩
  ihave Hscr := (scr_split c f) $$ Hscr
  icases Hscr with ⟨Hs0, Hrows⟩
  iapply (wp_signals m κ c (oweRecv c offs) W _ Q offs)
  isplitl [HtB Hrows]
  · iapply (sig_intro m κ c)
    isplitr; · iexact HR
    isplitl [HtB]; · iexact HtB
    isplitl [Hrows]; · iexact Hrows
    iexact HrR
  isplitl [HO]; · iexact HO
  iintro HO
  iapply (wp_load 𝒱₀ (c : Thread nD τ) none Set.univ (m := xM) (Finset.subset_univ _)) $$ Hx
  iintro Hx
  rw [read_x]
  unfold slotPts
  iapply (wp_load 𝒱₀ (c : Thread nD τ) none Set.univ (m := rM) (r := (slotR 0).toLoadRect) (load_sub 0)) $$ Hs0
  iintro Hs0
  iapply (wp_store 𝒱₀ (c : Thread nD τ) none Set.univ (m := rM) (r := slotR 0) (Mk := Finset.univ) (store_sub 0)) $$ Hs0
  iintro Hs0
  ihave Hs0 := (Entails.of_eq (pointsTo_congr (store_slot 0 f (part m c)))) $$ Hs0
  iapply (Rounds.wp_wait_rest_token 𝒱₀ ER (rd m) (c : Thread nD τ) none (κ := κ (barCell c))
      (wpE_semWait_eq 𝒱₀ (c : Thread nD τ) none Set.univ) (Set.mem_univ _) () (O := oweRecv c offs) (W := W) (R := 0) (m := 0) (T := ∅)
      ((Nat.zero_add 15).trans (expect_bar m c).symm)) $$ [HcB HO HaB]
  · isplitr; · iapply (records_bar m κ c); iexact HR
    isplitl [HcB]; · iexact HcB
    isplitl [HO]; · iexact HO
    isplitr; · iapply (mayWait_bar c); iexact Hlev
    iexact HaB
  iintro ⟨HO, HaB, -, Hpay⟩
  ihave Hpay := (Entails.of_eq (rest_bar m c)) $$ Hpay
  iapply (run_exchange m κ c _ fo Q)
  unfold opened slotPts
  isplitr [Hk]
  · isplitr; · iexact HR
    isplitl [HaB]; · iexact HaB
    isplitl [Hpay]; · iexact Hpay
    isplitl [Ht]; · iexact Ht
    isplitl [Ht']; · iexact Ht'
    isplitl [Hcr]; · iexact Hcr
    isplitl [HaS HrS HaR]
    · isplitl [HaS]; · iexact HaS
      isplitl [HrS]; · iexact HrS
      isplitl [HaR]; · iexact HaR
      iexact HrR
    isplitl [Hs0]; · iexact Hs0
    isplitl [HO]; · iexact HO
    isplitl [Hx]; · iexact Hx
    isplitl [Hg]; · iexact Hg
    iexact Ho
  iexact Hk

end Cert.RmsProof
-- ==== Proof.Region.lean ====
/-
# 01_k — the kernel's region of the program

The pipeline stages the two input blocks, runs the body once and writes the result block back. Here: the contents of the
windows around the body, the obligation on the body (from Body.lean's `run_body`), and the region as a segment of the
program, from the ghost state dealt at launch (`dealt`) to the result in place.
-/
module

public import proofs.«01_k».proof.Proof.Body
public import Idealize.ShloMosaic.Lib.Pipeline.RegionTalk
public import Idealize.ShloMosaic.Lib.Pipeline.ValueKit.Geometry

@[expose] public section

noncomputable section

namespace Cert.RmsProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf ucRefs)

variable {F : FTy → Type} [FloatOps F]

local notation "𝕄" => MT nD τ sig Unit (Elt F) ℕ UU ℕ

variable (m : (ℓ : Loc nD τ sig) → Buf (Elt F) ℓ)

/-! ## The kernel's own semaphores -/

/-- The kernel's own semaphores: the two entries 0 it never uses, the send and the receive semaphores of the offsets. -/
abbrev OwnIx : Type := Fin 2 ⊕ (Fin 15 ⊕ Fin 15)
def osem : OwnIx → SemLoc sig
  | .inl 0 => .dma (semM cc0_scratch1 0)
  | .inl 1 => .dma (semM cc0_scratch2 0)
  | .inr (.inl o) => .dma (sendS o)
  | .inr (.inr o) => .dma (recvS o)

theorem osem_facts : Pipeline.OwnSemFacts spec0 osem := by decide +kernel

/-- The two entries 0, at zero. -/
def idle (c : Dev nD) : sProp 𝕄 :=
  iprop(semVal ((c : Thread nD τ), .dma (semM cc0_scratch1 0)) 0 ∗ semVal ((c : Thread nD τ), .dma (semM cc0_scratch2 0)) 0)

theorem ownSems_eq (c : Dev nD) : (Pipeline.ownSems0 osem c : sProp 𝕄)
    = iprop(idle c ∗ (bigSep Finset.univ fun o => semVal (sendCell c o) 0) ∗ bigSep Finset.univ fun o => semVal (recvCell c o) 0) := by
  unfold Pipeline.ownSems0 idle
  rw [bigSep_univ_sum, bigSep_univ_sum, BI.bigSep_fin_two]
  rfl

/-! ## The ghost state through the region -/

/-- What a device holds from launch: the records, its tokens and credits, and the right to open its send and receive cells. -/
def dealt (c : Dev nD) : sProp 𝕄 :=
  iprop(∃ κ, records m κ ∗ ghost c ∗ (bigSep Finset.univ fun o => openTok ER (sendCell c o)) ∗ bigSep Finset.univ fun o => openTok ER (recvCell c o))

/-- What it holds when its body starts: the cells opened. -/
def ready (c : Dev nD) : sProp 𝕄 := iprop((∃ κ, records m κ ∗ ghost c ∗ opened c) ∗ levAts L lv ∗ idle c)

/-- Opening the send and receive cells at the region's entry. -/
theorem open_cells (c : Dev nD) : iprop(dealt m c ∗ Pipeline.ownSems0 osem c ∗ levAts L lv) ⊢ (|={Set.univ}=> ready m c : sProp 𝕄) := by
  rw [ownSems_eq]
  unfold dealt ready opened
  iintro ⟨⟨%κ, #HR, Hg, HoS, HoR⟩, ⟨Hi, HzS, HzR⟩, #Hlev⟩
  imod (open_fam m κ (fun o => sendCell c o) (records_send m κ c)) $$ [HoS HzS] with ⟨HaS, HrS⟩
  · isplitr; · iexact HR
    isplitl [HoS] <;> iassumption
  imod (open_fam m κ (fun o => recvCell c o) (records_recv m κ c)) $$ [HoR HzR] with ⟨HaR, HrR⟩
  · isplitr; · iexact HR
    isplitl [HoR] <;> iassumption
  imodintro
  isplitr [Hi]
  · iexists κ
    isplitr; · iexact HR
    isplitl [Hg]; · iexact Hg
    isplitl [HaS]; · iexact HaS
    isplitl [HrS]; · iexact HrS
    isplitl [HaR] <;> iassumption
  isplitr; · iexact Hlev
  iexact Hi

/-! ## The contents around the body -/

/-- The exchange buffer at contents not chosen. -/
def scrAny (c : Dev nD) : sProp 𝕄 := iprop(∃ f, scrLoc c ↦{fullShare} f)

/-- The invariant before the body; -/
def Φ₀ (c : Dev nD) : sProp 𝕄 := iprop(ready m c ∗ scrAny c ∗ ∃ r, prngReg c r)
/-- after it. -/
def Φ₁ (c : Dev nD) : sProp 𝕄 := iprop(semVal (barCell c) 0 ∗ Pipeline.ownSems0 osem c ∗ scrAny c ∗ ∃ r, prngReg c r)

/-- The windows' contents: the input blocks stay, the result window is left at `outAt`. -/
def dat (c : Dev nD) : Dat τ (Elt F) Unit ℕ UU ℕ cfg0 c where
  A w := V m c (Pipeline.arrRef spec0 w)
  after w _ := match w with
    | ⟨0, _⟩ => xblk m c
    | ⟨1, _⟩ => gblk m c
    | ⟨2, _⟩ => outAt m c
  Φ t := if t.val = 0 then Φ₀ m c else Φ₁ c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

section Ends
variable (c : Dev nD)

theorem owed_start : (dat (F := F) m c).owed 0 = O₀ c := by
  show (if ((0 : Fin (cfg0.N + 1)).val = 0) then O₀ c else 0) = O₀ c; exact if_pos rfl
theorem owed_end : (dat (F := F) m c).owed (Fin.last _) = 0 := by
  show (if (Fin.last cfg0.N).val = 0 then O₀ c else 0) = 0
  rw [Fin.val_last, if_neg (by rw [show cfg0.N = 1 from N_0]; decide)]
theorem inv_start : (dat (F := F) m c).Φ 0 = Φ₀ m c := by
  show (if ((0 : Fin (cfg0.N + 1)).val = 0) then Φ₀ m c else Φ₁ c) = _; exact if_pos rfl
theorem inv_end : (dat (F := F) m c).Φ (Fin.last _) = Φ₁ c := by
  show (if (Fin.last cfg0.N).val = 0 then Φ₀ m c else Φ₁ c) = _
  rw [Fin.val_last, if_neg (by rw [show cfg0.N = 1 from N_0]; decide)]

theorem before_x (t : Fin cfg0.N) (d) : (dat (F := F) m c).before 0 t d = xblk m c := by
  rw [fin_N0 t]; unfold Dat.before; rw [if_pos (fetch0_0 _)]; rfl
theorem before_g (t : Fin cfg0.N) (d) : (dat (F := F) m c).before 1 t d = gblk m c := by
  rw [fin_N0 t]; unfold Dat.before; rw [if_pos (fetch0_1 _)]; rfl

/-- The tally of the region at a point, from any record of waits; -/
theorem owesAt_of (t : Fin (cfg0.N + 1)) (O : CellTallies nD τ sig Unit) (h : (dat (F := F) m c).owed t = O) (W : Waits sig Unit) :
    (owes (c : Thread nD τ) O W : sProp 𝕄) ⊢ (dat m c).owesAt () t := by
  unfold Dat.owesAt Pipeline.owesWithin Dat.bound; rw [h]
  iintro HO; iexists W
  isplitr; · ipureintro; exact fun _ _ => Or.inl trivial
  iexact HO
/-- and back. -/
theorem of_owesAt (t : Fin (cfg0.N + 1)) (O : CellTallies nD τ sig Unit) (h : (dat (F := F) m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO
end Ends

/-! ## The body obligation -/

/-- A staging buffer, known to hold `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def stagedPre (c : Dev nD) : sProp 𝕄 :=
  iprop(Φ₀ m c ∗ (dat m c).owesAt () t0_0.castSucc
    ∗ (∃ d, stg c cc0_stg0_0 ((dat m c).before 0 t0_0 d)) ∗ (∃ d, stg c cc0_stg1_0 ((dat m c).before 1 t0_0 d))
    ∗ (∃ d, stg c cc0_stg2_0 ((dat m c).before 2 t0_0 d)))
def stagedPost (c : Dev nD) : sProp 𝕄 :=
  iprop(Φ₁ c ∗ (dat m c).owesAt () t0_0.succ
    ∗ stg c cc0_stg0_0 (xblk m c) ∗ stg c cc0_stg1_0 (gblk m c) ∗ stg c cc0_stg2_0 (outAt m c))

set_option maxRecDepth 16384 in
/-- The body between the staged windows. -/
theorem body_obligation (c : Dev nD) : BodyObligation (dat (F := F) m c) (defs₀ (F := F)) 𝒱₀ () Set.univ := fun t => by
  rw [fin_N0 t, bigSep_W0, bigSep_W0]
  simp only [owns_whole_eq]
  show stagedPre m c ⊢ wp frame (wpE (defs₀ (F := F)) 𝒱₀ c none) Set.univ
    (cc0_body xM (Memref.isWhole_whole _) gM (Memref.isWhole_whole _) oM (Memref.isWhole_whole _) rM (Memref.isWhole_whole _) cc0_scratch1 cc0_scratch2)
    (fun _ => stagedPost m c)
  unfold stagedPre Φ₀ ready scrAny
  iintro ⟨⟨⟨⟨%κ, HR, Hg, Hop⟩, Hlev, Hi⟩, Hscr, Hp⟩, HO, ⟨%dx, %fx, %ex, Hx⟩, ⟨%dg, %fg, %eg, Hgm⟩, ⟨%do', %fo, -, Ho⟩⟩
  rw [before_x] at ex
  rw [before_g] at eg
  subst ex eg
  ihave HO := (of_owesAt m c t0_0.castSucc (O₀ c) (owed_start m c)) $$ HO
  icases HO with ⟨%W, HO⟩
  iapply (run_body m κ c W fo fun _ => stagedPost m c)
  unfold bodyPre bodyPost
  isplitl [HR Hg Hop Hlev Hscr HO Hx Hgm Ho]
  · isplitl [HR]; · iexact HR
    isplitl [Hlev]; · iexact Hlev
    isplitl [Hg]; · iexact Hg
    isplitl [Hop]; · iexact Hop
    isplitl [Hscr]; · iexact Hscr
    isplitl [HO]; · iexact HO
    isplitl [Hx]; · iexact Hx
    isplitl [Hgm] <;> iassumption
  iintro ⟨⟨HzB, HzS, HzR⟩, Hscr, ⟨%W', HO⟩, Hx, Hgm, Ho⟩
  unfold stagedPost Φ₁ scrAny
  rw [ownSems_eq]
  isplitl [HzB HzS HzR Hi Hscr Hp]
  · isplitl [HzB]; · iexact HzB
    isplitl [HzS HzR Hi]
    · isplitl [Hi]; · iexact Hi
      isplitl [HzS] <;> iassumption
    isplitl [Hscr] <;> iassumption
  isplitl [HO]; · iapply (owesAt_of m c t0_0.succ 0 (owed_end m c) W'); iexact HO
  isplitl [Hx]; · iexists _; isplitr; · ipureintro; rfl
                  iexact Hx
  isplitl [Hgm]; · iexists _; isplitr; · ipureintro; rfl
                   iexact Hgm
  iexists _; isplitr; · ipureintro; rfl
  iexact Ho

/-! ## The buffers before and after -/

/-- A device's buffers as launched; -/
def V₀ (c : Dev nD) : Valuation τ sig (Elt F) := fun b => m ((c : Dev nD), b)
/-- when the region is entered; -/
def V₁ (c : Dev nD) : Valuation τ sig (Elt F) := StableHlo.after hostOps0 (V₀ m c)
/-- when it is left: the result in place. -/
def V₂ (c : Dev nD) : Valuation τ sig (Elt F) := Function.update (V₁ m c) (Proc.devRef .tc main_v2) (outAt m c)

theorem V₂_out (c : Dev nD) : V₂ m c (Proc.devRef .tc main_v2) = outAt m c := Function.update_self ..
theorem V₂_ne (c : Dev nD) {b : DevRef τ sig} (h : b ≠ Proc.devRef .tc main_v2) : V₂ m c b = V₁ m c b := Function.update_of_ne h ..
theorem V₁_arg0 (c : Dev nD) : V₁ m c (Proc.devRef .tc main_arg0) = m ((c : Thread nD τ).loc main_arg0) := V_main_arg0 m c
theorem V₁_arg1 (c : Dev nD) : V₁ m c (Proc.devRef .tc main_arg1) = m ((c : Thread nD τ).loc main_arg1) := V_main_arg1 m c

/-- The arrays of the windows, and the rest of the unscoped buffers. -/
abbrev arrs : Finset (DevRef τ sig) := Pipeline.arrRefs (τ := τ) spec0
abbrev others : Finset (DevRef τ sig) := ucRefs τ sig \ arrs

theorem arrs_sub : arrs ⊆ ucRefs τ sig := by decide
theorem out_mem : Proc.devRef .tc main_v2 ∈ arrs := by decide

/-- The arrays hold `V₁` when the region is entered; -/
theorem arr_start (c : Dev nD) (w : Fin cfg0.W) : (dat m c).arrAt w 0 = V₁ m c (Proc.devRef .tc (Pipeline.arrRef spec0 w)) := rfl
/-- `V₂` when it is left. -/
theorem arr_end (c : Dev nD) (w : Fin cfg0.W) : (dat m c).arrAt w cfg0.N = V₂ m c (Proc.devRef .tc (Pipeline.arrRef spec0 w)) := by
  match w with
  | ⟨0, _⟩ => exact ((dat m c).arrAt_in 0 rfl _).trans (V₂_ne m c (b := Proc.devRef .tc main_arg0) (by decide)).symm
  | ⟨1, _⟩ => exact ((dat m c).arrAt_in 1 rfl _).trans (V₂_ne m c (b := Proc.devRef .tc main_v1) (by decide)).symm
  | ⟨2, _⟩ =>
    refine ((dat m c).arrAt_eq_of_after_last 2 t0_0 (by decide +kernel) (outAt m c) fun j => ?_).trans (V₂_out m c).symm
    rfl

/-! ## The region -/

theorem share_full (c : Dev nD) (w : Fin cfg0.W) : (dat m c).share w = fullShare := by unfold Dat.share; split <;> rfl

/-- The levels of the region's own waits lie below whatever is owed. -/
theorem owed_above (c : Dev nD) (t : Fin (cfg0.N + 1)) (g : GSem nD τ sig) (i : Unit) (h : 0 < (dat (F := F) m c).owed t g i) :
    i ∈ L g ∧ 0 < lv g i := by
  have e : (dat (F := F) m c).owed t = if t.val = 0 then O₀ c else 0 := rfl
  rw [e] at h
  split at h
  · rcases O₀_pos h with ⟨o, rfl⟩ | ⟨o, rfl⟩
    · exact ⟨by rw [L_tc]; exact Finset.mem_singleton_self _, by rw [lv_recv]; decide⟩
    · exact ⟨by rw [L_tc]; exact Finset.mem_singleton_self _, by rw [lv_bar]; decide⟩
  · exact absurd h (Nat.lt_irrefl 0)

/-- No staging semaphore is a receive semaphore. -/
theorem stage_level : ∀ (w : Fin 3) (s : Fin (spec0 w).nbuf), semLv (.dma ((spec0 w).sem s)) = 0 := by decide

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Entering the invariant; -/
theorem inv_in (c : Dev nD) :
    iprop(Pipeline.scopedRest (Pipeline.pin (pcfgs (F := F)) adm 0).spec c ∗ (∃ r, prngReg c r) ∗ StableHlo.held (c.tc : Thread nD τ) ∅ (V₁ m c) ∗ ready m c)
      ⊢ (pdats m 0 c).Φ 0 := by
  rw [show (pdats m 0 c).Φ 0 = Φ₀ m c from inv_start m c,
    show (Pipeline.scopedRest (Pipeline.pin (pcfgs (F := F)) adm 0).spec c : sProp 𝕄) = scrAny c from scopedRest0_eq c]
  unfold Φ₀
  iintro ⟨Hs, Hp, -, Hr⟩
  isplitl [Hr]; · iexact Hr
  isplitl [Hs] <;> iassumption
/-- leaving it. -/
theorem inv_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c)
        ∗ Pipeline.ownSems0 osem c ∗ semVal (barCell c) 0) := by
  rw [show (pdats m 0 c).Φ (Fin.last (Pipeline.pin (pcfgs (F := F)) adm 0).N) = Φ₁ c from inv_end m c,
    show (Pipeline.scopedRest (Pipeline.pin (pcfgs (F := F)) adm 0).spec c : sProp 𝕄) = scrAny c from scopedRest0_eq c]
  unfold Φ₁ StableHlo.held
  rw [BI.bigSep_empty]
  iintro ⟨Hb, Hos, Hs, Hp⟩
  isplitl [Hs]; · iexact Hs
  isplitl [Hp]; · iexact Hp
  isplitr; · iempintro
  isplitl [Hos] <;> iassumption

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

set_option backward.isDefEq.respectTransparency.types false in
/-- The kernel's region. -/
def reg0 : ℝ𝕊 0 :=
  Pipeline.RegionSeg.ofTalk (pcfgs (F := F)) adm (pdats m) () defs₀ 𝒱₀ L lv 0 osem osem_facts
    ∅ others (Finset.empty_subset _) kitP rfl (fun c => (body_obligation m c).loose)
    (fun _ => 0) O₀ (fun c => (owed_start m c).trans (zero_add _).symm) (owed_end m) (fun _ => rfl) (share_full m)
    (V₁ m) (V₂ m) (fun c b hb => V₂_ne m c fun h => (Finset.mem_sdiff.mp (Finset.mem_sdiff.mp hb).1).2 (h ▸ out_mem))
    (dealt m) (fun c => semVal (barCell c) 0) (ready m) (fun c => semVal (barCell c) 0) (open_cells m) (inv_in m) (inv_out m)
    (fun c => by iintro H; imodintro; iexact H)
    (fun _ => 0)
    ⟨fun c w s => by rw [L_tc]; exact Finset.mem_singleton_self _, fun c w s => le_of_eq (stage_level w s), owed_above m⟩
    (fun _ => iprop(emp))
    (arr_start m) (arr_end m)

/-- What rides beside the buffers: the ghost state, and what the device owes. -/
def beside (c : Dev nD) : sProp 𝕄 := iprop(dealt m c ∗ (∃ r, prngReg c r) ∗ ∃ W, owes (c : Thread nD τ) (O₀ c) W)

/-- The host's reshape of gamma. -/
def seg0 : ℍ := Pipeline.HostSeg.ofOps _ _ _ _ _ (ucRefs τ sig) hostOps0
  (fun op h => Pipeline.sub_ucRefs op ((List.forall_iff_forall_mem.mp hostOps0_sub) op h))
  (List.forall_iff_forall_mem.mp hostOps0_fresh) (V₀ m) (beside m)

/-- What the host segment leaves is what the region takes; -/
theorem reg_pre (c : Dev nD) : iprop(StableHlo.held (c.tc : Thread nD τ) (ucRefs τ sig) (V₁ m c) ∗ beside m c) ⊢ (reg0 m).pre c := by
  show _ ⊢ iprop(StableHlo.held (c.tc : Thread nD τ) arrs (V₁ m c) ∗ (∃ r, prngReg c r)
    ∗ (StableHlo.held (c.tc : Thread nD τ) others (V₁ m c) ∗ emp) ∗ dealt m c ∗ ∃ Wd, owes (c : Thread nD τ) (0 + O₀ c) Wd)
  rw [StableHlo.held_sub_split (c.tc : Thread nD τ) arrs_sub (V₁ m c), zero_add]
  unfold beside
  iintro ⟨⟨Ha, Ho⟩, Hd, Hp, HO⟩
  isplitl [Ha]; · iexact Ha
  isplitl [Hp]; · iexact Hp
  isplitl [Ho]
  · isplitl [Ho]; · iexact Ho
    iempintro
  isplitl [Hd] <;> iassumption
/-- what the region leaves is the buffers at `V₂`. -/
theorem reg_post (c : Dev nD) : (reg0 m).post c
    ⊢ iprop((StableHlo.held (c.tc : Thread nD τ) (ucRefs τ sig) (V₂ m c) ∗ semVal (barCell c) 0) ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) others (V₂ m c) ∗ emp) ∗ semVal (barCell c) 0 ∗ ∃ Wd, owes (c : Thread nD τ) (0 : CellTallies nD τ sig Unit) Wd) ⊢ _
  rw [StableHlo.held_sub_split (c.tc : Thread nD τ) arrs_sub (V₂ m c)]
  iintro ⟨Ha, -, ⟨Ho, -⟩, Hb, HO⟩
  isplitr [HO]
  · isplitr [Hb]
    · isplitl [Ha] <;> iassumption
    iexact Hb
  iexact HO

/-- The program's two segments. -/
abbrev segs : List (Pipeline.Seg (pcfgs (F := F)) adm (pdats m) () defs₀ 𝒱₀ L lv) := [.host (seg0 m), .region (reg0 m)]

theorem main_eq (c : Dev nD) : main (F := F) c = Pipeline.Seg.run (segs m) :=
  main_segs adm (pdats m) () 𝒱₀ L lv (seg0 m) (reg0 m) rfl c

end Cert.RmsProof
-- ==== Proof.Run.lean ====
/-
# 01_k — the run of the program on the sixteen devices

Every cell's invariant is allocated at launch, the send and the receive cells without their counters; the tokens are dealt
to the devices that pay them; the program then runs to its end on every device (`run_main`), over any float values.
-/
module

public import proofs.«01_k».proof.Proof.Region

@[expose] public section

noncomputable section

namespace Cert.RmsProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs)

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

/-- The send and the receive semaphores of the offsets. -/
def scSem : Fin 15 ⊕ Fin 15 → SemLoc sig
  | .inl o => .dma (sendS o)
  | .inr o => .dma (recvS o)
theorem scSem_inj : Function.Injective scSem := by decide +kernel
theorem scSem_ne_bar : ∀ x, scSem x ≠ .reg barS := by decide

def barEmb : Dev nD ↪ GSem nD τ sig := ⟨fun c => barCell c, fun _ _ h => congrArg (fun g : GSem nD τ sig => g.1.1) h⟩
def scEmb : Dev nD × (Fin 15 ⊕ Fin 15) ↪ GSem nD τ sig :=
  ⟨fun x => ((x.1 : Thread nD τ), scSem x.2), fun _ _ h =>
    Prod.ext (congrArg (fun g : GSem nD τ sig => g.1.1) h) (scSem_inj (congrArg Prod.snd h))⟩

/-- The barrier cells; -/
abbrev barCells : Finset (GSem nD τ sig) := Finset.univ.map barEmb
/-- the send and the receive cells. -/
abbrev scCells : Finset (GSem nD τ sig) := Finset.univ.map scEmb

theorem disjoint_cells : Disjoint (barCells : Finset (GSem nD τ sig)) scCells := by
  rw [Finset.disjoint_left]
  rintro g h₁ h₂
  obtain ⟨c, -, rfl⟩ := Finset.mem_map.mp h₁
  obtain ⟨x, -, h⟩ := Finset.mem_map.mp h₂
  exact scSem_ne_bar x.2 (congrArg Prod.snd h)

/-- A family over the barrier cells is one over the devices; -/
theorem over_bar (Φ : GSem nD τ sig → sProp 𝕄) : bigSep barCells Φ = bigSep Finset.univ fun c : Dev nD => Φ (barCell c) :=
  bigSep_map barEmb
/-- one over the send and receive cells is two over the devices and the offsets. -/
theorem over_sc (Φ : GSem nD τ sig → sProp 𝕄) : bigSep scCells Φ
    = iprop((bigSep Finset.univ fun c : Dev nD => bigSep Finset.univ fun o : Fin 15 => Φ (sendCell c o))
        ∗ bigSep Finset.univ fun c : Dev nD => bigSep Finset.univ fun o : Fin 15 => Φ (recvCell c o)) := by
  rw [bigSep_map, bigSep_univ_prod, ← bigSep_sep']
  exact bigSep_congr fun c _ => bigSep_univ_sum _

/-- One over all the cells is the three. -/
theorem over_cells (Φ : GSem nD τ sig → sProp 𝕄) : bigSep (barCells ∪ scCells) Φ
    = iprop((bigSep Finset.univ fun c : Dev nD => Φ (barCell c))
        ∗ (bigSep Finset.univ fun c : Dev nD => bigSep Finset.univ fun o : Fin 15 => Φ (sendCell c o))
        ∗ bigSep Finset.univ fun c : Dev nD => bigSep Finset.univ fun o : Fin 15 => Φ (recvCell c o)) := by
  rw [bigSep_union disjoint_cells, over_sc, over_bar]; rfl

/-- The records, from every cell's invariant and the barrier cells' openness. -/
theorem records_intro (κ : GSem nD τ sig → ℕ) :
    iprop((bigSep (barCells ∪ scCells) fun g => cellInv ER (rd (F := F) m) (κ g) g) ∗ bigSep barCells fun g => reached ER g 0) ⊢ records m κ := by
  rw [over_cells, over_bar]
  unfold records
  rw [bigSep_univ_prod, bigSep_univ_prod]
  iintro ⟨⟨Hb, Hs, Hr⟩, H⟩
  isplitl [Hb]; · iexact Hb
  isplitl [Hs]; · iexact Hs
  isplitl [Hr] <;> iassumption

/-! ## The tokens -/

/-- The duties of a device's cells: the barrier's fifteen, each send cell's one, each receive cell's one. -/
def tokSem : Fin 15 ⊕ (Fin 15 ⊕ Fin 15) → SemLoc sig × Fin 15
  | .inl d => (.reg barS, d)
  | .inr (.inl o) => (.dma (sendS o), 0)
  | .inr (.inr o) => (.dma (recvS o), 0)
theorem tokSem_inj : Function.Injective tokSem := by decide +kernel

def toks : Finset (GSem nD τ sig × ℕ × Fin 15) :=
  Finset.univ.map ⟨fun x : Dev nD × (Fin 15 ⊕ (Fin 15 ⊕ Fin 15)) => (((x.1 : Thread nD τ), (tokSem x.2).1), 0, (tokSem x.2).2), fun _ _ h =>
    Prod.ext (congrArg (fun t : GSem nD τ sig × ℕ × Fin 15 => t.1.1.1) h)
      (tokSem_inj (Prod.ext (congrArg (fun t : GSem nD τ sig × ℕ × Fin 15 => t.1.2) h) (congrArg (fun t : GSem nD τ sig × ℕ × Fin 15 => t.2.2) h)))⟩

theorem toks_eq : bigSep toks (fun x => (dutyTok ER x.1 x.2.1 x.2.2 : sProp 𝕄))
    = iprop((bigSep Finset.univ fun c : Dev nD => bigSep Finset.univ fun d : Fin 15 => dutyTok ER (barCell c) 0 d)
        ∗ (bigSep Finset.univ fun c : Dev nD => bigSep Finset.univ fun o : Fin 15 => dutyTok ER (sendCell c o) 0 0)
        ∗ bigSep Finset.univ fun c : Dev nD => bigSep Finset.univ fun o : Fin 15 => dutyTok ER (recvCell c o) 0 0) := by
  unfold toks
  rw [bigSep_map, bigSep_univ_prod, ← bigSep_sep', ← bigSep_sep']
  exact bigSep_congr fun c _ => by rw [bigSep_univ_sum, bigSep_univ_sum]; rfl

/-- At each offset, every device stands in for the one that many places on. -/
def turn : Dev nD × Fin 15 ≃ Dev nD × Fin 15 :=
  ⟨fun x => (peer x.1 x.2, x.2), fun x => (back x.1 x.2, x.2), fun x => Prod.ext (back_peer x.1 x.2) rfl, fun x => Prod.ext (peer_back x.1 x.2) rfl⟩

/-- A family over the devices and offsets, each device handed the entry of the device it addresses. -/
theorem around (Φ : Dev nD → Fin 15 → sProp 𝕄) :
    (bigSep Finset.univ fun c => bigSep Finset.univ fun o => Φ c o) = bigSep Finset.univ fun c => bigSep Finset.univ fun o => Φ (peer c o) o := by
  rw [← bigSep_univ_prod fun x : Dev nD × Fin 15 => Φ x.1 x.2, bigSep_univ_equiv turn, bigSep_univ_prod]; rfl

/-! ## The launch credit -/

theorem sum_offs {M : Type} [AddCommMonoid M] (f : Fin 15 → M) : (offs.map f).sum = ∑ o, f o := by
  rw [Fin.sum_univ_def, show List.finRange 15 = offs from by decide]

theorem tally_apply (g g' : GSem nD τ sig) (n : ℕ) : (tallyAt g' () n : CellTallies nD τ sig Unit) g () = if g = g' then n else 0 := by
  rw [tallyAt_apply]; simp

theorem O₀_apply (d : Dev nD) (g : GSem nD τ sig) :
    O₀ d g () = (∑ o, if g = recvCell (peer d o) o then N else 0) + ∑ o, if g = barCell (peer d o) then 1 else 0 := by
  unfold O₀ oweRecv oweBar
  rw [sum_offs, sum_offs, Pi.add_apply, Finsupp.add_apply, Finset.sum_apply, Finset.sum_apply, Finsupp.finset_sum_apply, Finsupp.finset_sum_apply]
  simp only [tally_apply]

theorem bar_eq_bar {c q : Dev nD} : barCell c = barCell q ↔ q = c :=
  ⟨fun h => (congrArg (fun g : GSem nD τ sig => g.1.1) h).symm, fun h => h ▸ rfl⟩
theorem recv_eq_recv {c q : Dev nD} {o o' : Fin 15} : recvCell c o = recvCell q o' ↔ q = c ∧ o' = o :=
  ⟨fun h => ⟨(congrArg (fun g : GSem nD τ sig => g.1.1) h).symm,
      (Sum.inr.inj (scSem_inj (a₁ := .inr o) (a₂ := .inr o') (congrArg Prod.snd h))).symm⟩,
    fun ⟨h, h'⟩ => by subst h h'; rfl⟩
theorem bar_ne_recv (c q : Dev nD) (o : Fin 15) : barCell c ≠ recvCell q o := fun h => scSem_ne_bar (.inr o) (congrArg Prod.snd h).symm

/-- All the devices together owe a barrier cell its fifteen units; -/
theorem owed_bar (c : Dev nD) : ∑ d, O₀ d (barCell c) () = 15 := by
  simp only [O₀_apply, bar_eq_bar, if_neg (bar_ne_recv c _ _), Finset.sum_const_zero, zero_add]
  rw [Finset.sum_comm]
  have h (o : Fin 15) : ∑ d : Dev nD, (if peer d o = c then 1 else 0) = 1 :=
    (Equiv.sum_comp (step o) fun q => if q = c then 1 else 0).trans (by rw [Finset.sum_ite_eq' Finset.univ c]; exact if_pos (Finset.mem_univ _))
  rw [Finset.sum_congr rfl fun o _ => h o]
  decide
/-- a receive cell the credit of its one copy. -/
theorem owed_recv (c : Dev nD) (o : Fin 15) : ∑ d, O₀ d (recvCell c o) () = N := by
  simp only [O₀_apply, recv_eq_recv, if_neg (bar_ne_recv _ c o).symm, Finset.sum_const_zero, add_zero]
  rw [Finset.sum_comm]
  have h (o' : Fin 15) : ∑ d : Dev nD, (if peer d o' = c ∧ o' = o then N else 0) = if o' = o then N else 0 := by
    refine (Equiv.sum_comp (step o') fun q => if q = c ∧ o' = o then N else 0).trans ?_
    by_cases ho : o' = o
    · simp only [ho, and_true, if_true]
      rw [Finset.sum_ite_eq' Finset.univ c]; exact if_pos (Finset.mem_univ _)
    · simp only [ho, and_false, if_false, Finset.sum_const_zero]
  rw [Finset.sum_congr rfl fun o' _ => h o', Finset.sum_ite_eq' Finset.univ o]
  exact if_pos (Finset.mem_univ _)

/-- A cell whose whole debt is `n` gets credit `n` at launch. -/
theorem launch_credit {g : GSem nD τ sig} {n : ℕ} (h : ∑ d, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

def recvEmb : Fin 15 ↪ SemLoc sig := ⟨fun o => .dma (recvS o), fun _ _ h => Sum.inr.inj (scSem_inj h)⟩

theorem creds (c : Dev nD) :
    (Pipeline.launchCred O₀ c : sProp 𝕄) ⊢ iprop(cred (tallyAt (barCell c) () 15) ∗ bigSep Finset.univ fun o => cred (tallyAt (recvCell c o) () N)) := by
  unfold Pipeline.launchCred
  rw [bigSep_univ_at _ (SemLoc.reg barS), launch_credit (owed_bar c)]
  refine sep_mono_right (BIBase.Entails.trans (bigSep_subset (t := Finset.univ.map recvEmb) fun sm hsm => ?_) (Entails.of_eq ?_))
  · obtain ⟨o, -, rfl⟩ := Finset.mem_map.mp hsm
    exact Finset.mem_erase.mpr ⟨scSem_ne_bar (.inr o), Finset.mem_univ _⟩
  · rw [bigSep_map]
    exact bigSep_congr fun o _ => congrArg cred (launch_credit (owed_recv c o))

/-! ## The launch -/

/-- The launch element: the pipeline's at its staging cells, the exchange's at its own. -/
def u₀ : UU :=
  (initOf (Pipeline.cells (Pipeline.pin (pcfgs (F := F)) adm) cellOf_inj) (Pipeline.launchToks (Pipeline.pin (pcfgs (F := F)) adm) cellOf_inj),
    launchOf barCells scCells toks)

/-- A resource kept whole on one device, until the launch deals it. -/
def parked (X : sProp 𝕄) (c : Dev nD) : sProp 𝕄 := if c = 0 then X else iprop(emp)
theorem parked_eq (X : sProp 𝕄) : bigSep Finset.univ (parked X) = X := by
  rw [bigSep_univ_at _ (0 : Dev nD), bigSep_congr (s := Finset.univ.erase 0) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

def G : Dev nD → sProp 𝕄 := parked (BI.own (ER (launchOf barCells scCells toks)))

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What of a device's launch holdings is not the exchange's ghost state. -/
def bundle (c : Dev nD) : sProp 𝕄 :=
  iprop(StableHlo.held (c.tc : Thread nD τ) (ucRefs τ sig) (V₀ m c)
    ∗ (cred (tallyAt (barCell c) () 15) ∗ bigSep Finset.univ fun o => cred (tallyAt (recvCell c o) () N))
    ∗ owes (c : Thread nD τ) (O₀ c) ∅ ∗ ∃ r, prngReg c r)

/-- What of the ghost state stays with device `c`. -/
def dealtOwn (c : Dev nD) : sProp 𝕄 :=
  iprop(atPos ER (barCell c) 0 ∅ 0
    ∗ ((bigSep Finset.univ fun o => openTok ER (sendCell c o)) ∗ bigSep Finset.univ fun o => openTok ER (recvCell c o))
    ∗ (bigSep Finset.univ fun o => dutyTok ER (barCell (peer c o)) 0 o)
    ∗ (bigSep Finset.univ fun o => dutyTok ER (sendCell c o) 0 0)
    ∗ bigSep Finset.univ fun o => dutyTok ER (recvCell (peer c o) o) 0 0)

abbrev T₀ (c : Dev nD) : sProp 𝕄 := iprop(StableHlo.held (c.tc : Thread nD τ) (ucRefs τ sig) (V₀ m c) ∗ beside m c)
abbrev T₁ (c : Dev nD) : sProp 𝕄 := iprop(StableHlo.held (c.tc : Thread nD τ) (ucRefs τ sig) (V₂ m c) ∗ semVal (barCell c) 0)

theorem T₀_intro (κ : GSem nD τ sig → ℕ) (c : Dev nD) : iprop(records m κ ∗ (dealtOwn c ∗ bundle m c)) ⊢ T₀ m c := by
  unfold bundle T₀ beside dealt dealtOwn ghost
  iintro ⟨HR, ⟨Hat, ⟨HoS, HoR⟩, HtB, HtS, HtR⟩, Hh, ⟨HcB, HcR⟩, HO, Hp⟩
  isplitl [Hh]; · iexact Hh
  isplitr [HO Hp]
  · iexists κ
    isplitl [HR]; · iexact HR
    isplitr [HoS HoR]
    · isplitl [Hat]; · iexact Hat
      isplitl [HcB]; · iexact HcB
      isplitl [HtB]; · iexact HtB
      isplitl [HtS]; · iexact HtS
      isplitl [HtR] <;> iassumption
    isplitl [HoS] <;> iassumption
  isplitl [Hp]; · iexact Hp
  iexists ∅; iexact HO

/-- What one device brings to the launch. -/
theorem core_init (c : Dev nD) :
    iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
  rw [show unscopedBufs c (fun b => m ((c : Thread nD τ).loc b)) = StableHlo.held (c.tc : Thread nD τ) (ucRefs τ sig) (V₀ m c)
    from Pipeline.unscopedBufs_held c (V₀ m c), unscopedSems_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

/-- The ghost state, dealt: each device's positions and rights, and the tokens of the duties it pays. -/
theorem deal :
    iprop(bigSep barCells (fun g => (atPos ER g 0 ∅ 0 : sProp 𝕄)) ∗ bigSep scCells (fun g => (openTok ER g : sProp 𝕄))
        ∗ bigSep toks (fun x => (dutyTok ER x.1 x.2.1 x.2.2 : sProp 𝕄)))
      ⊢ bigSep Finset.univ fun c : Dev nD => dealtOwn (F := F) c := by
  unfold dealtOwn
  rw [over_bar, over_sc, toks_eq, around (F := F) fun c d => dutyTok ER (barCell c) 0 d, around (F := F) fun c o => dutyTok ER (recvCell c o) 0 0]
  iintro ⟨Hat, Hopen, Htok⟩
  iapply fam_pair; isplitl [Hat]; · iexact Hat
  iapply fam_pair; isplitl [Hopen]; · iapply fam_pair; iexact Hopen
  icases Htok with ⟨HB, HS, HR⟩
  iapply fam_pair; isplitl [HB]; · iexact HB
  iapply fam_pair; isplitl [HS] <;> iassumption

/-- THE LAUNCH: from what every device brings, what each starts with. -/
theorem launch :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H' := (fam_mono (F := F) fun c : Dev nD => core_init m ρ c) $$ H
  ihave H2 := fam_unpair $$ H'; icases H2 with ⟨HB, H3⟩
  ihave H4 := fam_unpair $$ H3; icases H4 with ⟨Hv, HG⟩
  ihave Hu := (show bigSep Finset.univ (G (F := F)) ⊢ BI.own (ER (launchOf barCells scCells toks)) from
    Entails.of_eq (parked_eq (F := F) (BI.own (ER (launchOf barCells scCells toks))))) $$ HG
  imod (Rounds.fund_launch ER (rd m) disjoint_cells (fun g _ h => h) toks) $$ [Hv Hu] with ⟨%κ, -, #Hinv, #Hr, Hat, Hopen, Htok⟩
  · isplitl [Hv]
    · iapply (Entails.of_eq (over_bar (F := F) fun g => semVal g 0).symm) $$ Hv
    · iexact Hu
  imodintro
  iapply (bigSep_with_persistent (R := records m κ) (Φ := fun c => iprop(dealtOwn c ∗ bundle m c)) fun c _ => T₀_intro m κ c)
  isplitr
  · iapply (records_intro m κ)
    isplitr; · iexact Hinv
    iexact Hr
  iapply fam_pair
  isplitr [HB]
  · iapply (deal (F := F))
    isplitl [Hat]; · iexact Hat
    isplitl [Hopen] <;> iassumption
  · iexact HB

/-! ## The run -/

theorem unscoped_eq : ∀ sm : SemLoc sig, sm.isScoped .tc = false → sm = .reg barS := by decide

/-- The unscoped buffers, one by one. -/
theorem held_eq (c : Dev nD) (W : Valuation τ sig (Elt F)) : (StableHlo.held (c.tc : Thread nD τ) (ucRefs τ sig) W : sProp 𝕄)
    = iprop((((c : Thread nD τ).loc main_arg0) ↦{fullShare} W main_arg0) ∗ (((c : Thread nD τ).loc main_arg1) ↦{fullShare} W main_arg1)
        ∗ (((c : Thread nD τ).loc main_v1) ↦{fullShare} W main_v1) ∗ (((c : Thread nD τ).loc main_v2) ↦{fullShare} W main_v2)) := by
  unfold StableHlo.held
  rw [bigSep_eq_bigSepL_of_eq [Proc.devRef .tc main_arg0, Proc.devRef .tc main_arg1, Proc.devRef .tc main_v1, Proc.devRef .tc main_v2] (by decide) (by decide)]
  rfl

set_option backward.isDefEq.respectTransparency.types false in
/-- THE RUN: from any memory with zero counters, every weakly fair execution of the program on the sixteen devices ends, each
    device's result holding `outAt`, its two arguments unchanged, and every counter at zero. -/
theorem run_main : θ_run defs (onTc (τ := τ) (main (F := F))) ⟨m, fun _ => 0, ρ⟩
    (fun r => (∀ c : Dev nD, r.2.mem ((c.tc : Thread nD τ).loc main_v2) = outAt m c
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [parked_eq]; iexact HX)
    (T₀ := T₀ m) (Tₙ := T₁ m)
    (hch := ⟨fun c => .rfl, fun c => reg_pre m c, fun c => reg_post m c⟩)
    (hinit := launch m ρ)
    (QY := fun c s => (s.mem ((c : Thread nD τ).loc main_v2) = V₂ m c main_v2
        ∧ s.mem ((c : Thread nD τ).loc main_arg0) = V₂ m c main_arg0 ∧ s.mem ((c : Thread nD τ).loc main_arg1) = V₂ m c main_arg1)
      ∧ s.sem (barCell c) = 0)
    (hfin := fun c s' => by
      dsimp only [T₁]; rw [held_eq]
      iintro ⟨⟨⟨Hx, Hg, -, Ho⟩, Hb⟩, HSI⟩
      icombine HSI Hx gives %hx
      icombine HSI Hg gives %hg
      icombine HSI Ho gives %ho
      icombine HSI Hb gives %hb
      imodintro
      isplitr
      · ipureintro
        exact ⟨⟨Buf.eq_of_forall_mem_univ ho, Buf.eq_of_forall_mem_univ hx, Buf.eq_of_forall_mem_univ hg⟩, by simpa using hb⟩
      iexact HSI)
    (hQ := fun s h hs => ⟨fun c => by
        obtain ⟨⟨ho, hx, hg⟩, -⟩ := h c
        rw [V₂_out] at ho
        rw [V₂_ne m c (by decide), V₁_arg0] at hx
        rw [V₂_ne m c (by decide), V₁_arg1] at hg
        exact ⟨ho, hx, hg⟩,
      sem_eq_zero hs fun c sm hsm => by
        obtain rfl := unscoped_eq sm hsm
        exact (h c).2⟩)

end Cert.RmsProof
-- ==== Proof.Value.lean ====
/-
# 01_k — the value of the result over the extended reals

A device's block of the result is its block of `x`, times its block of `gamma`, times the reciprocal square root of the mean
of the squares of the whole row plus epsilon: the row's sum of squares is gathered from the sixteen blocks. The reference
divides by the square root instead. The mean is never negative and epsilon is positive, so the two agree at every input, the
infinite ones included.
-/
module

public import proofs.«01_k».proof.Proof.Run
public import proofs.«01_k».proof.Proof.Gen.ReferenceIdeal.Run
public import Idealize.ShloMosaic.Lib.Pointwise
public import Idealize.ShloMosaic.Lib.Pipeline.ValueKit

@[expose] public section

noncomputable section

namespace Cert.RmsProof

open Cert.KernelIdeal Cert.KernelIdeal.Gen

open Idealize.ShloMosaic
open Idealize.ShloMosaic.TcCoe
open Idealize.SL Idealize.SL.Sem
open scoped BigOperators

/-! ## The kernel's payloads, element by element -/

/-- The sum of the squares of row `r` of a block. -/
def sq (x : Vec Ideal S1024x512 .f32) (r : Fin 1024) : EReal := ∑ k : Fin 512, x (ix2 r k) * x (ix2 r k)

/-- The patterns of 1/8192 and of epsilon, as the kernel and the reference write them. -/
abbrev inv8192 : EReal := Ideal.ofBits .f32 0x39000000#32
abbrev eps : EReal := Ideal.ofBits .f32 0x3727C5AC#32

theorem pay3_apply (x : Vec Ideal S1024x512 .f32) (a : Fin 8) (b : Fin 128) :
    k0_pay3 x (ix2 a b) = sq x ⟨a.val * 128 + b.val, by omega⟩ := by
  pointwise [k0_pay3, k0_pay2, sq]

theorem addRow_apply (x : Vec Ideal S1024x512 .f32) (acc : FVec Ideal S8x128 .f32) (j : S8x128.Idx) :
    addRow acc (k0_pay4 x) j = acc j + k0_pay3 x j := by
  pointwise [addRow, k0_pay4]

theorem scaled_apply (x : Vec Ideal S1024x512 .f32) (g : Vec Ideal S1x512 .f32) (acc : FVec Ideal S8x128 .f32) (r : Fin 1024) (l : Fin 512) :
    scaled x g acc (ix2 r l) = x (ix2 r l) * g (ix2 0 l)
      * Ideal.rsqrt (acc (ix2 ⟨r.val / 128, by omega⟩ ⟨r.val % 128, by omega⟩) * inv8192 + eps) := by
  pointwise [scaled, k0_pay1, k0_pay5, k0_pay13, k0_pay2]

/-! ## The blocks, as launched -/

variable (m : (ℓ : Loc nD τ sig) → Buf (Elt Ideal) ℓ)

/-- Every window is the whole of its array. -/
theorem index_eq : ∀ t : Fin cfg0.N, win0_0.index t = ![0, 0] ∧ win0_1.index t = ![0, 0] := by decide +kernel

theorem xblk_eq (c : Dev nD) : xblk m c = m ((c.tc : Thread nD τ).loc main_arg0) := by
  unfold xblk
  blk_ext! [iblk, V, index_eq t0_0]

theorem gblk_apply (c : Dev nD) (l : Fin 512) : gblk m c (ix2 0 l) = m ((c.tc : Thread nD τ).loc main_arg1) (ix1 l) := by
  unfold gblk
  blk_ext! [iblk, V, index_eq t0_0]

/-! ## The sum over the devices -/

theorem back_eq (c : Fin 16) (o : Fin 15) : back c o = c - o.succ := by revert c o; decide

/-- A device's own term and the terms of the devices behind it are the terms of all devices. -/
theorem sum_back (c : Fin 16) (f : Fin 16 → EReal) : f c + ∑ o : Fin 15, f (back c o) = ∑ d, f d := by
  rw [← Equiv.sum_comp (Equiv.subLeft c) f, Fin.sum_univ_succ (n := 15)]
  simp only [back_eq, Equiv.subLeft_apply, sub_zero]

theorem rowsSum_apply (c : Dev nD) (l : List (Fin 15)) (acc : FVec Ideal S8x128 .f32) (j : S8x128.Idx) :
    rowsSum m c l acc j = acc j + (l.map fun o => k0_pay3 (xblk m (back c o)) j).sum := by
  induction l generalizing acc with
  | nil => simp [rowsSum]
  | cons o l ih =>
    rw [List.map_cons, List.sum_cons, ← add_assoc, ← addRow_apply]
    exact ih _

theorem gathered (c : Dev nD) (r : Fin 1024) :
    rowsSum m c offs (k0_pay3 (xblk m c)) (ix2 ⟨r.val / 128, by omega⟩ ⟨r.val % 128, by omega⟩)
      = ∑ d : Dev nD, sq (xblk m d) r := by
  have hr : (⟨r.val / 128 * 128 + r.val % 128, by omega⟩ : Fin 1024) = r := Fin.ext (Nat.div_add_mod' _ _)
  rw [rowsSum_apply, sum_offs]
  simp only [pay3_apply, hr]
  exact sum_back c fun d => sq (xblk m d) r

/-! ## Reciprocal square root and division -/

theorem inv8192_eq : inv8192 = ((1 / 8192 : ℝ) : EReal) := by
  simp [inv8192, Ideal.ofBits, Ideal.ieee, -EReal.coe_mul]; norm_num

theorem word8192_eq : Ideal.ofBits .f32 0x46000000#32 = ((8192 : ℝ) : EReal) := by
  simp [Ideal.ofBits, Ideal.ieee, -EReal.coe_mul]; norm_num

theorem eps_pos : (0 : EReal) < eps := by
  simp [eps, Ideal.ofBits, Ideal.ieee, -EReal.coe_mul]

theorem mean_eq (s : EReal) : Ideal.div s (Ideal.ofBits .f32 0x46000000#32) = s * inv8192 := by
  rw [word8192_eq, Ideal.div_coe (by norm_num), inv8192_eq]

/-- Dividing by the square root of a positive extended real is multiplying by its reciprocal square root. -/
theorem div_sqrt (y a : EReal) (ha : 0 < a) : Ideal.div y (Ideal.sqrt a) = y * Ideal.rsqrt a := by
  induction a with
  | bot => exact absurd ha (by simp)
  | top => simp [Ideal.div]
  | coe a =>
    have h : 0 < a := by exact_mod_cast ha
    have hs : Real.sqrt a ≠ 0 := (Real.sqrt_pos.mpr h).ne'
    rw [Ideal.sqrt_coe, Ideal.rsqrt_coe, if_neg h.le.not_gt, if_neg h.le.not_gt, if_neg h.ne', Ideal.div_coe hs, one_div]

theorem mul_self_nonneg (x : EReal) : 0 ≤ x * x := by
  induction x with
  | bot => simp
  | top => simp
  | coe x => exact_mod_cast _root_.mul_self_nonneg x

theorem sq_nonneg (x : Vec Ideal S1024x512 .f32) (r : Fin 1024) : 0 ≤ sq x r := Finset.sum_nonneg fun k _ => mul_self_nonneg _

/-! ## The reference's term -/

section Reference

open Cert.ReferenceIdeal Cert.ReferenceIdeal.Gen

/-- What the reference computes of the whole `x` and the whole `gamma`. -/
def refOut (X : Vec Ideal Cert.ReferenceIdeal.S1024x8192 .f32) (G : Vec Ideal Cert.ReferenceIdeal.S8192 .f32) :
    FVec Ideal Cert.ReferenceIdeal.S1024x8192 .bf16 :=
  have sums := Host.reduceAdd (mulf X X) (constant Cert.ReferenceIdeal.S_ .f32 0x00000000#32) reducesTo_S1024x8192_S1024_d1 h_S_
  have means := Host.divf (broadcastInDim S1024x1 ![0] bcast_S1024_S1024x1_0 sums) (broadcastInDim S1024x1 ![] bcast_S_S1024x1 (constant Cert.ReferenceIdeal.S_ .f32 0x46000000#32))
  have roots := Host.sqrt (addf means (broadcastInDim S1024x1 ![] bcast_S_S1024x1 (constant Cert.ReferenceIdeal.S_ .f32 0x3727C5AC#32)))
  have gammas := broadcastInDim S1024x8192 ![0, 1] bcast_S1x8192_S1024x8192_0_1 (broadcastInDim S1x8192 ![1] bcast_S8192_S1x8192_1 G)
  truncf .bf16 (Host.divf (mulf gammas X) (broadcastInDim S1024x8192 ![0, 1] bcast_S1024x1_S1024x8192_0_1 roots)) Cert.ReferenceIdeal.Gen.bitsLt_bf16_f32

theorem refOut_apply (X : Vec Ideal Cert.ReferenceIdeal.S1024x8192 .f32) (G : Vec Ideal Cert.ReferenceIdeal.S8192 .f32) (r : Fin 1024) (l : Fin 8192) :
    refOut X G (ix2 r l) = Ideal.div (G (ix1 l) * X (ix2 r l))
      (Ideal.sqrt (Ideal.div (∑ k : Fin 8192, X (ix2 r k) * X (ix2 r k)) (Ideal.ofBits .f32 0x46000000#32) + eps)) := by
  pointwise [refOut]

end Reference

/-! ## The two results agree -/

/-- A block of the whole `x` or of the whole result, at coordinates. -/
theorem block_x (X : Vec Ideal Cert.ReferenceIdeal.S1024x8192 .f32) (c : Fin 16) (r : Fin 1024) (l : Fin 512) :
    Layout.block ⟨2, ![1024, 512]⟩ ⟨2, ![1024, 8192]⟩ 1 16 c X (by decide) (ix2 r l) = X (ix2 r ⟨c.val * 512 + l.val, by omega⟩) :=
  congrArg X (funext fun a => Fin.ext (by match a with | ⟨0, _⟩ => rfl | ⟨1, _⟩ => rfl))

theorem block_g (G : Vec Ideal Cert.ReferenceIdeal.S8192 .f32) (c : Fin 16) (l : Fin 512) :
    Layout.block ⟨1, ![512]⟩ ⟨1, ![8192]⟩ 0 16 c G (by decide) (ix1 l) = G (ix1 ⟨c.val * 512 + l.val, by omega⟩) :=
  congrArg G (funext fun a => Fin.ext (by match a with | ⟨0, _⟩ => rfl))

/-- Every device's block of the result is its block of the reference's result, when the devices start with the blocks of the
    reference's arguments. -/
theorem outAt_eq (X : Vec Ideal Cert.ReferenceIdeal.S1024x8192 .f32) (G : Vec Ideal Cert.ReferenceIdeal.S8192 .f32)
    (hX : ∀ c : Dev nD, m ((c.tc : Thread nD τ).loc main_arg0) = Layout.block ⟨2, ![1024, 512]⟩ ⟨2, ![1024, 8192]⟩ 1 16 c X)
    (hG : ∀ c : Dev nD, m ((c.tc : Thread nD τ).loc main_arg1) = Layout.block ⟨1, ![512]⟩ ⟨1, ![8192]⟩ 0 16 c G) (c : Dev nD) :
    outAt m c = Layout.block ⟨2, ![1024, 512]⟩ ⟨2, ![1024, 8192]⟩ 1 16 c (refOut X G) := by
  have hx : ∀ (d : Fin 16) (r : Fin 1024) (l : Fin 512), xblk m d (ix2 r l) = X (ix2 r ⟨d.val * 512 + l.val, by omega⟩) := fun d r l =>
    (congrFun ((xblk_eq m d).trans (hX d)) _).trans (block_x X d r l)
  have hs : ∀ r, ∑ d : Dev nD, sq (xblk m d) r = ∑ k : Fin 8192, X (ix2 r k) * X (ix2 r k) := fun r => by
    rw [Fin.sum_univ_tiles 16 512 rfl]
    simp only [sq, hx]
  funext i
  obtain ⟨r, l, rfl⟩ : ∃ (r : Fin 1024) (l : Fin 512), i = ix2 r l := ⟨i 0, i 1, by
    funext a; match a with | ⟨0, _⟩ => rfl | ⟨1, _⟩ => rfl⟩
  have hg : gblk m c (ix2 0 l) = G (ix1 ⟨c.val * 512 + l.val, by have : c.val < 16 := c.isLt; omega⟩) :=
    (gblk_apply m c l).trans ((congrFun (hG c) _).trans (block_g G c l))
  have hp : 0 < (∑ k : Fin 8192, X (ix2 r k) * X (ix2 r k)) * inv8192 + eps := by
    refine lt_of_lt_of_le eps_pos (le_add_of_nonneg_left (mul_nonneg (Finset.sum_nonneg fun k _ => mul_self_nonneg _) ?_))
    rw [inv8192_eq]; exact EReal.coe_nonneg.mpr (by norm_num)
  rw [block_x, refOut_apply, mean_eq, div_sqrt _ _ hp, mul_comm (G _)]
  unfold outAt
  rw [scaled_apply, gathered, hs, hx, hg]

end Cert.RmsProof

end
-- ==== Proof.lean ====
/-
# 01_k — the certificate's claims, assembled

The kernel's run, over any float values, gives the frames of both readings of the kernel; with the value of the result over
the extended reals it gives the comparison with the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

/-- The kernel's frame, over any float values: its arguments are as launched and every counter is back at zero. -/
theorem frame {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ r.2.sem = fun _ => 0 :=
  (θ_run Cert.KernelIdeal.defs _ _).mono (fun _ h => ⟨fun c => (h.1 c).2, h.2⟩) (Cert.RmsProof.run_main m ρ)

theorem frame_kernelIdeal : Cert.quiescent_KernelIdeal := fun m ρ _ => frame m ρ

/-- The two programs have the same body table: they have the same text, so at the kernel's one label both run the same body. -/
theorem table_eq : Cert.Kernel.defs₀ (F := Bits) = Cert.KernelIdeal.defs₀ (F := Bits) := by
  funext p ℓ a
  cases p with
  | tc =>
    obtain rfl : ℓ = (0 : Fin 1) := Subsingleton.elim (α := Fin 1) _ _
    obtain ⟨t, s⟩ := a
    rfl
  | scScalar => rfl
  | scVector => rfl

/-- So they have the same table with the pipeline's labels. -/
theorem defs_eq : Cert.Kernel.defs (F := Bits) = Cert.KernelIdeal.defs (F := Bits) :=
  congrArg (Pipeline.defs Cert.KernelIdeal.pcfgs) table_eq

/-- The kernel as printed has the frame of its ideal reading, at the float words. -/
theorem frame_kernel : Cert.quiescent_Kernel := fun m ρ _ => by
  rw [defs_eq]
  exact frame (F := Bits) m ρ

/-- The frame of the reference, whose program declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's blocks are the blocks of the reference's result. -/
theorem value : Cert.algebraic_KernelIdeal_ReferenceIdeal := fun m ρ m' ρ' _ hin =>
  ⟨Cert.RmsProof.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).1.trans (Cert.RmsProof.outAt_eq m _ _ (fun d => (hin d).1) (fun d => (hin d).2) c), (h.1 c).2⟩)
      (Cert.RmsProof.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, value⟩

end Cert.Proof

end
